-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_inf [hPre_below_inf : Cert.Pre_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf [hPre_below_inf : Cert.Pre_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_inf [hKernelIdeal : Cert.KernelIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_inf [hReferenceIdeal : Cert.ReferenceIdeal.Facts] [hPre_below_inf : Cert.Pre_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log2e_over_tau" .f32 0x4166D4CA#32 (((134217728 / 13421773) * (Real.log 2)⁻¹ : ℝ) : EReal)

def algebraic_KernelIdeal_ReferenceIdeal_pre_below_inf [hKernelIdeal : Cert.KernelIdeal.Facts] [hReferenceIdeal : Cert.ReferenceIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_inf : Cert.Pre_below_inf.Facts),
    quiescent_Kernel (hKernel := hKernel)
    ∧ quiescent_KernelIdeal (hKernelIdeal := hKernelIdeal)
    ∧ quiescent_KernelIdeal_pre_below_inf (hKernelIdeal := hKernelIdeal) (hPre_below_inf := hPre_below_inf)
    ∧ quiescent_ReferenceIdeal (hReferenceIdeal := hReferenceIdeal)
    ∧ quiescent_ReferenceIdeal_pre_below_inf (hReferenceIdeal := hReferenceIdeal) (hPre_below_inf := hPre_below_inf)
    ∧ preserves_Kernel_KernelIdeal
    ∧ algebraic_KernelIdeal_ReferenceIdeal_pre_below_inf (hKernelIdeal := hKernelIdeal) (hReferenceIdeal := hReferenceIdeal) (hPre_below_inf := hPre_below_inf)
-- ==== Pre_below_inf.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_cst : FVec F S_ .f32 := constant S_ .f32 0x7F800000#32
  let main_v0 : FVec F S4096x4096 .f32 := broadcastInDim S4096x4096 ![] bcast_S_S4096x4096 main_cst
  let main_v1 : IVec S4096x4096 1 := cmpf .olt main_arg0 main_v0
  let main_c : IVec S_ 1 := constantI S_ 1 1#1
  let main_v2 : IVec S_ 1 := (fun x v => Host.reduce IntOp.andi x v reducesTo_S4096x4096_S_d0_1 h_S_) main_v1 main_c
  main_v2
-- ==== Kernel.lean ====
abbrev S4096x4096 : Shape := ⟨2, ![4096, 4096]⟩
abbrev S1x1 : Shape := ⟨2, ![1, 1]⟩
abbrev S512x4096 : Shape := ⟨2, ![512, 4096]⟩
abbrev S1x4096 : Shape := ⟨2, ![1, 4096]⟩
abbrev S512 : Shape := ⟨1, ![512]⟩
abbrev S512x1 : Shape := ⟨2, ![512, 1]⟩
abbrev S1x512 : Shape := ⟨2, ![1, 512]⟩
abbrev S1x1x4096 : Shape := ⟨3, ![1, 1, 4096]⟩
abbrev S1 : Shape := ⟨1, ![1]⟩
abbrev S1x1x1 : Shape := ⟨3, ![1, 1, 1]⟩
abbrev S512x512 : Shape := ⟨2, ![512, 512]⟩
abbrev S1x512x512 : Shape := ⟨3, ![1, 512, 512]⟩
abbrev S_ : Shape := ⟨0, ![]⟩

abbrev nBuf : Space → Nat
  | .hbm => 3
  | .vmem => 4
  | .smem => 1
  | _ => 0

abbrev bufTy : (tb : Table) → Fin (tcTables nBuf tb) → BufTy
  | .hbm, ⟨0, _⟩ => ⟨S4096x4096, .f32⟩
  | .hbm, ⟨1, _⟩ => ⟨S1x1, .f32⟩
  | .hbm, ⟨2, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S4096x4096, .bf16⟩
  | .local _ .vmem, ⟨3, _⟩ => ⟨S1x4096, .f32⟩
  | .local _ .smem, ⟨0, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : Index := Scalar.indexCast v11
  let c0_3 : Index := 0#32
  ![v12.toNat, 0]
def k0_off2 (i : grid0.Coords) : Fin 2 → Nat :=
  let c0_19 : Index := 0#32
  let arg1 : BitVec 32 := BitVec.ofNat 32 (i 1).val
  let c512_i32_18 : BitVec 32 := 512#32
  let v45 : BitVec 32 := Scalar.muli arg1 c512_i32_18
  let v46 : Index := Scalar.indexCast v45
  ![0, v46.toNat]
def k0_cond6 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let arg1 : BitVec 32 := BitVec.ofNat 32 (i 1).val
  let c512_i32 : BitVec 32 := 512#32
  let v6 : BitVec 32 := Scalar.muli arg1 c512_i32
  let v7 : Index := Scalar.indexCast v6
  let c0 : Index := 0#32
  ![v7.toNat, 0]
def k0_off4 (i : grid0.Coords) : Fin 2 → Nat :=
  let arg1 : BitVec 32 := BitVec.ofNat 32 (i 1).val
  let c512_i32_10 : BitVec 32 := 512#32
  let v30 : BitVec 32 := Scalar.muli arg1 c512_i32_10
  let v32 : Index := Scalar.indexCast v30
  let c512_i32_11 : BitVec 32 := 512#32
  let v31 : BitVec 32 := Scalar.muli arg1 c512_i32_11
  let v33 : Index := Scalar.indexCast v31
  ![v32.toNat, v33.toNat]
def k0_off5 (i : grid0.Coords) : Fin 2 → Nat :=
  let c0_13 : Index := 0#32
  let arg1 : BitVec 32 := BitVec.ofNat 32 (i 1).val
  let c512_i32_12 : BitVec 32 := 512#32
  let v36 : BitVec 32 := Scalar.muli arg1 c512_i32_12
  let v37 : Index := Scalar.indexCast v36
  ![0, v37.toNat]
def k0_cond4 (i : grid0.Coords) : BitVec 1 :=
  let arg1 : BitVec 32 := BitVec.ofNat 32 (i 1).val
  let c0_i32_25 : BitVec 32 := 0#32
  let v70 : BitVec 1 := Scalar.cmpi .eq arg1 c0_i32_25
  let v71 : BitVec 32 := Scalar.extui v70
  let c0_i32_26 : BitVec 32 := 0#32
  let v72 : BitVec 1 := Scalar.cmpi .ne v71 c0_i32_26
  v72

def k0_cond5 (i : grid0.Coords) : BitVec 1 :=
  let arg1 : BitVec 32 := BitVec.ofNat 32 (i 1).val
  let c0_i32_27 : BitVec 32 := 0#32
  let v73 : BitVec 1 := Scalar.cmpi .sgt arg1 c0_i32_27
  let v74 : BitVec 32 := Scalar.extui v73
  let c0_i32_28 : BitVec 32 := 0#32
  let v75 : BitVec 1 := Scalar.cmpi .ne v74 c0_i32_28
  v75

def k0_cond7 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_24 : BitVec 32 := 0#32
  let v67 : BitVec 1 := Scalar.cmpi .ne v66 c0_i32_24
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]
-- ==== KernelIdeal.lean ====
variable {F : FTy → Type} [FloatOps F] [Named F]
def κ : String → Option EReal := fun
  | "log2e_over_tau" => some (((134217728 / 13421773) * (Real.log 2)⁻¹ : ℝ) : EReal)
  | _ => none
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1 : Shape := ⟨1, ![1]⟩
abbrev S2 : Shape := ⟨1, ![2]⟩
abbrev S1x1 : Shape := ⟨2, ![1, 1]⟩
abbrev S4096x4095 : Shape := ⟨2, ![4096, 4095]⟩
abbrev S4096x4095x1 : Shape := ⟨3, ![4096, 4095, 1]⟩
abbrev S4096x4095x2 : Shape := ⟨3, ![4096, 4095, 2]⟩

abbrev nBuf : Space → Nat
  | .hbm => 609
  | .vmem => 0
  | .smem => 0
  | _ => 0

abbrev hbmTy0_0 (i : Nat) : BufTy := match i % 128 with
  | 0 => ⟨S4096x4096, .f32⟩
  | 1 => ⟨S_, .f32⟩
  | 2 => ⟨S4096x4096, .f32⟩
  | 3 => ⟨S4096x4096, .f32⟩
  | 4 => ⟨S4096x4096, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S4096x4096, .f32⟩
  | 12 => ⟨S4096x4096, .f32⟩
  | 13 => ⟨S4096x4096, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S4096x4096, .f32⟩
  | 21 => ⟨S4096x4096, .f32⟩
  | 22 => ⟨S_, .i32⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S1, .i32⟩
  | 31 => ⟨S2, .i32⟩
  | 32 => ⟨S_, .i32⟩
  | 33 => ⟨S_, .i32⟩
  | 34 => ⟨S_, .i32⟩
  | 35 => ⟨S1, .i32⟩
  | 36 => ⟨S_, .i32⟩
  | 37 => ⟨S_, .i32⟩
  | 38 => ⟨S1, .i32⟩
  | 39 => ⟨S2, .i32⟩
  | 40 => ⟨S1, .i32⟩
  | 41 => ⟨S_, .i32⟩
  | 42 => ⟨S1, .i32⟩
  | 43 => ⟨S_, .i32⟩
  | 44 => ⟨S1, .i32⟩
  | 45 => ⟨S1, .i32⟩
  | 46 => ⟨S_, .i32⟩
  | 47 => ⟨S_, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S_, .i32⟩
  | 82 => ⟨S1, .i32⟩
  | 83 => ⟨S1, .i32⟩
  | 84 => ⟨S_, .i32⟩
  | 85 => ⟨S1, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S_, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S1, .i32⟩
  | 123 => ⟨S1, .i32⟩
  | 124 => ⟨S_, .i32⟩
  | 125 => ⟨S1, .i32⟩
  | 126 => ⟨S1, .i32⟩
  | 127 => ⟨S_, .i32⟩
  | _ => ⟨S4096x4096, .f32⟩

abbrev hbmTy0_1 (i : Nat) : BufTy := match i % 128 with
  | 0 => ⟨S1, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S4096x4096, .f32⟩

abbrev hbmTy0_2 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S4096x4096, .i64⟩
  | 24 => ⟨S4096x4096, .i64⟩
  | 25 => ⟨S_, .i64⟩
  | 26 => ⟨S4096x4096, .i64⟩
  | 27 => ⟨S4096x4096, .i64⟩
  | 28 => ⟨S_, .i64⟩
  | 29 => ⟨S4096x4096, .i64⟩
  | 30 => ⟨S4096x4096, .i64⟩
  | 31 => ⟨S4096x4096, .i64⟩
  | 32 => ⟨S_, .i64⟩
  | 33 => ⟨S4096x4096, .i64⟩
  | 34 => ⟨S4096x4096, .i64⟩
  | 35 => ⟨S4096x4096, .i32⟩
  | 36 => ⟨S4096x4096, .i32⟩
  | 37 => ⟨S_, .i32⟩
  | 38 => ⟨S_, .i32⟩
  | 39 => ⟨S_, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S4096x4096, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S_, .i32⟩
  | 67 => ⟨S4096x4096, .i32⟩
  | 68 => ⟨S4096x4096, .i32⟩
  | 69 => ⟨S4096x4096, .i32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S_, .i32⟩
  | 76 => ⟨S4096x4096, .i32⟩
  | 77 => ⟨S4096x4096, .i32⟩
  | 78 => ⟨S4096x4096, .i32⟩
  | 79 => ⟨S4096x4096, .i32⟩
  | 80 => ⟨S4096x4096, .i32⟩
  | 81 => ⟨S4096x4096, .i32⟩
  | 82 => ⟨S4096x4096, .i32⟩
  | 83 => ⟨S4096x4096, .i32⟩
  | 84 => ⟨S_, .i32⟩
  | 85 => ⟨S4096x4096, .i32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S_, .i32⟩
  | 92 => ⟨S4096x4096, .i32⟩
  | 93 => ⟨S4096x4096, .i32⟩
  | 94 => ⟨S4096x4096, .i32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S_, .i32⟩
  | 101 => ⟨S4096x4096, .i32⟩
  | 102 => ⟨S4096x4096, .i32⟩
  | 103 => ⟨S4096x4096, .i32⟩
  | 104 => ⟨S4096x4096, .i32⟩
  | 105 => ⟨S4096x4096, .i32⟩
  | 106 => ⟨S_, .i32⟩
  | 107 => ⟨S4096x4096, .i32⟩
  | 108 => ⟨S4096x4096, .i32⟩
  | 109 => ⟨S_, .i32⟩
  | 110 => ⟨S4096x4096, .i32⟩
  | 111 => ⟨S4096x4096, .i32⟩
  | 112 => ⟨S4096x4096, .i32⟩
  | 113 => ⟨S4096x4096, .i32⟩
  | 114 => ⟨S4096x4096, .i32⟩
  | 115 => ⟨S_, .i32⟩
  | 116 => ⟨S4096x4096, .i32⟩
  | 117 => ⟨S4096x4096, .i32⟩
  | 118 => ⟨S_, .i32⟩
  | 119 => ⟨S4096x4096, .i32⟩
  | 120 => ⟨S4096x4096, .i32⟩
  | 121 => ⟨S4096x4096, .i32⟩
  | 122 => ⟨S4096x4096, .i32⟩
  | 123 => ⟨S4096x4096, .i32⟩
  | 124 => ⟨S4096x4096, .i32⟩
  | 125 => ⟨S4096x4096, .i32⟩
  | 126 => ⟨S4096x4096, .i32⟩
  | 127 => ⟨S_, .i32⟩
  | _ => ⟨S4096x4096, .f32⟩

abbrev hbmTy0_3 (i : Nat) : BufTy := match i % 128 with
  | 0 => ⟨S4096x4096, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S4096x4096, .i32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S_, .i32⟩
  | 16 => ⟨S4096x4096, .i32⟩
  | 17 => ⟨S4096x4096, .i32⟩
  | 18 => ⟨S4096x4096, .i32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S4096x4096, .i32⟩
  | 28 => ⟨S4096x4096, .i32⟩
  | 29 => ⟨S4096x4096, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S4096x4096, .i32⟩
  | 37 => ⟨S4096x4096, .i32⟩
  | 38 => ⟨S4096x4096, .i32⟩
  | 39 => ⟨S4096x4096, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S_, .i32⟩
  | 50 => ⟨S4096x4096, .i32⟩
  | 51 => ⟨S4096x4096, .i32⟩
  | 52 => ⟨S4096x4096, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S4096x4096, .i32⟩
  | 62 => ⟨S4096x4096, .i32⟩
  | 63 => ⟨S4096x4096, .i32⟩
  | 64 => ⟨S_, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S4096x4096, .i32⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S4096x4096, .i32⟩
  | 80 => ⟨S4096x4096, .i32⟩
  | 81 => ⟨S4096x4096, .i32⟩
  | 82 => ⟨S4096x4096, .i32⟩
  | 83 => ⟨S4096x4096, .i32⟩
  | 84 => ⟨S4096x4096, .i32⟩
  | 85 => ⟨S_, .i32⟩
  | 86 => ⟨S4096x4096, .i32⟩
  | 87 => ⟨S4096x4096, .i32⟩
  | 88 => ⟨S4096x4096, .i32⟩
  | 89 => ⟨S_, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S4096x4096, .i32⟩
  | 96 => ⟨S4096x4096, .i32⟩
  | 97 => ⟨S4096x4096, .i32⟩
  | 98 => ⟨S_, .i32⟩
  | 99 => ⟨S4096x4096, .i32⟩
  | 100 => ⟨S4096x4096, .i32⟩
  | 101 => ⟨S_, .i32⟩
  | 102 => ⟨S4096x4096, .i32⟩
  | 103 => ⟨S4096x4096, .i32⟩
  | 104 => ⟨S4096x4096, .i32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S4096x4096, .i32⟩
  | 114 => ⟨S4096x4096, .i32⟩
  | 115 => ⟨S4096x4096, .i32⟩
  | 116 => ⟨S_, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S4096x4096, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S4096x4096, .f32⟩

abbrev hbmTy0_4 (i : Nat) : BufTy := match i % 128 with
  | 0 => ⟨S_, .i32⟩
  | 1 => ⟨S4096x4096, .i32⟩
  | 2 => ⟨S4096x4096, .i32⟩
  | 3 => ⟨S4096x4096, .i32⟩
  | 4 => ⟨S_, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S4096x4096, .f32⟩
  | 11 => ⟨S_, .f32⟩
  | 12 => ⟨S4096x4096, .f32⟩
  | 13 => ⟨S4096x4096, .f32⟩
  | 14 => ⟨S1x1, .f32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i1⟩
  | 27 => ⟨S4096x4096, .f32⟩
  | 28 => ⟨S_, .f32⟩
  | 29 => ⟨S4096, .f32⟩
  | 30 => ⟨S_, .f32⟩
  | 31 => ⟨S4096, .f32⟩
  | 32 => ⟨S4096, .f32⟩
  | 33 => ⟨S_, .f32⟩
  | 34 => ⟨S4096x4096, .f32⟩
  | 35 => ⟨S4096x4096, .i1⟩
  | 36 => ⟨S4096x1, .f32⟩
  | 37 => ⟨S4096x4096, .f32⟩
  | 38 => ⟨S4096x4096, .f32⟩
  | 39 => ⟨S4096x4095, .f32⟩
  | 40 => ⟨S4096x4095, .i32⟩
  | 41 => ⟨S_, .f32⟩
  | 42 => ⟨S4096x4096, .f32⟩
  | 43 => ⟨S4096, .i32⟩
  | 44 => ⟨S4096x1, .i32⟩
  | 45 => ⟨S_, .i32⟩
  | 46 => ⟨S4096x1, .i32⟩
  | 47 => ⟨S4096x1, .i1⟩
  | 48 => ⟨S_, .i32⟩
  | 49 => ⟨S4096x1, .i32⟩
  | 50 => ⟨S4096x1, .i32⟩
  | 51 => ⟨S4096x1, .i32⟩
  | 52 => ⟨S_, .i32⟩
  | 53 => ⟨S4096x4095, .i32⟩
  | 54 => ⟨S4096x4095, .i1⟩
  | 55 => ⟨S_, .i32⟩
  | 56 => ⟨S4096x4095, .i32⟩
  | 57 => ⟨S4096x4095, .i32⟩
  | 58 => ⟨S4096x4095, .i32⟩
  | 59 => ⟨S4096x4095, .i32⟩
  | 60 => ⟨S4096x4095x1, .i32⟩
  | 61 => ⟨S4096x4095x1, .i32⟩
  | 62 => ⟨S4096x4095x2, .i32⟩
  | 63 => ⟨S_, .f32⟩
  | 64 => ⟨S4096x4095, .f32⟩
  | 65 => ⟨S4096x4096, .f32⟩
  | 66 => ⟨S_, .f32⟩
  | 67 => ⟨S4096x4096, .f32⟩
  | 68 => ⟨S4096x4096, .f32⟩
  | 69 => ⟨S_, .f32⟩
  | 70 => ⟨S4096x4096, .f32⟩
  | 71 => ⟨S4096x4096, .f32⟩
  | 72 => ⟨S4096x4096, .f32⟩
  | 73 => ⟨S4096x4096, .f32⟩
  | 74 => ⟨S_, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S4096x4096, .f32⟩
  | 88 => ⟨S4096x4096, .f32⟩
  | 89 => ⟨S_, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | _ => ⟨S4096x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_call0_v0 : Ref sig .tc := ⟨.hbm, 46, rfl⟩
abbrev main_call0_call0_c : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_c_0 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_c_1 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_call0_v12 : Ref sig .tc := ⟨.hbm, 61, rfl⟩
abbrev main_call0_call0_v13 : Ref sig .tc := ⟨.hbm, 62, rfl⟩
abbrev main_call0_call0_c_2 : Ref sig .tc := ⟨.hbm, 63, rfl⟩
abbrev main_call0_call0_v14 : Ref sig .tc := ⟨.hbm, 64, rfl⟩
abbrev main_call0_call0_v15 : Ref sig .tc := ⟨.hbm, 65, rfl⟩
abbrev main_call0_call0_c_3 : Ref sig .tc := ⟨.hbm, 66, rfl⟩
abbrev main_call0_call0_v16 : Ref sig .tc := ⟨.hbm, 67, rfl⟩
abbrev main_call0_call0_v17 : Ref sig .tc := ⟨.hbm, 68, rfl⟩
abbrev main_call0_call0_v18 : Ref sig .tc := ⟨.hbm, 69, rfl⟩
abbrev main_call0_call0_v19 : Ref sig .tc := ⟨.hbm, 70, rfl⟩
abbrev main_call0_call0_v20 : Ref sig .tc := ⟨.hbm, 71, rfl⟩
abbrev main_call0_call0_c_4 : Ref sig .tc := ⟨.hbm, 72, rfl⟩
abbrev main_call0_call0_v21 : Ref sig .tc := ⟨.hbm, 73, rfl⟩
abbrev main_call0_call0_v22 : Ref sig .tc := ⟨.hbm, 74, rfl⟩
abbrev main_call0_call0_c_5 : Ref sig .tc := ⟨.hbm, 75, rfl⟩
abbrev main_call0_call0_v23 : Ref sig .tc := ⟨.hbm, 76, rfl⟩
abbrev main_call0_call0_v24 : Ref sig .tc := ⟨.hbm, 77, rfl⟩
abbrev main_call0_call0_v25 : Ref sig .tc := ⟨.hbm, 78, rfl⟩
abbrev main_call0_call0_v26 : Ref sig .tc := ⟨.hbm, 79, rfl⟩
abbrev main_call0_call0_v27 : Ref sig .tc := ⟨.hbm, 80, rfl⟩
abbrev main_call0_call0_c_6 : Ref sig .tc := ⟨.hbm, 81, rfl⟩
abbrev main_call0_call0_v28 : Ref sig .tc := ⟨.hbm, 82, rfl⟩
abbrev main_call0_call0_v29 : Ref sig .tc := ⟨.hbm, 83, rfl⟩
abbrev main_call0_call0_c_7 : Ref sig .tc := ⟨.hbm, 84, rfl⟩
abbrev main_call0_call0_v30 : Ref sig .tc := ⟨.hbm, 85, rfl⟩
abbrev main_call0_call0_v31 : Ref sig .tc := ⟨.hbm, 86, rfl⟩
abbrev main_call0_call0_v32 : Ref sig .tc := ⟨.hbm, 87, rfl⟩
abbrev main_call0_call0_v33 : Ref sig .tc := ⟨.hbm, 88, rfl⟩
abbrev main_call0_call0_v34 : Ref sig .tc := ⟨.hbm, 89, rfl⟩
abbrev main_call0_call0_v35 : Ref sig .tc := ⟨.hbm, 90, rfl⟩
abbrev main_call0_call0_v36 : Ref sig .tc := ⟨.hbm, 91, rfl⟩
abbrev main_call0_call0_v37 : Ref sig .tc := ⟨.hbm, 92, rfl⟩
abbrev main_call0_call0_c_8 : Ref sig .tc := ⟨.hbm, 93, rfl⟩
abbrev main_call0_call0_v38 : Ref sig .tc := ⟨.hbm, 94, rfl⟩
abbrev main_call0_call0_v39 : Ref sig .tc := ⟨.hbm, 95, rfl⟩
abbrev main_call0_call0_v40 : Ref sig .tc := ⟨.hbm, 96, rfl⟩
abbrev main_call0_call0_c_9 : Ref sig .tc := ⟨.hbm, 97, rfl⟩
abbrev main_call0_call0_v41 : Ref sig .tc := ⟨.hbm, 98, rfl⟩
abbrev main_call0_call0_v42 : Ref sig .tc := ⟨.hbm, 99, rfl⟩
abbrev main_call0_call0_c_10 : Ref sig .tc := ⟨.hbm, 100, rfl⟩
abbrev main_call0_call0_v43 : Ref sig .tc := ⟨.hbm, 101, rfl⟩
abbrev main_call0_call0_v44 : Ref sig .tc := ⟨.hbm, 102, rfl⟩
abbrev main_call0_call0_v45 : Ref sig .tc := ⟨.hbm, 103, rfl⟩
abbrev main_call0_call0_v46 : Ref sig .tc := ⟨.hbm, 104, rfl⟩
abbrev main_call0_call0_v47 : Ref sig .tc := ⟨.hbm, 105, rfl⟩
abbrev main_call0_call0_c_11 : Ref sig .tc := ⟨.hbm, 106, rfl⟩
abbrev main_call0_call0_v48 : Ref sig .tc := ⟨.hbm, 107, rfl⟩
abbrev main_call0_call0_v49 : Ref sig .tc := ⟨.hbm, 108, rfl⟩
abbrev main_call0_call0_c_12 : Ref sig .tc := ⟨.hbm, 109, rfl⟩
abbrev main_call0_call0_v50 : Ref sig .tc := ⟨.hbm, 110, rfl⟩
abbrev main_call0_call0_v51 : Ref sig .tc := ⟨.hbm, 111, rfl⟩
abbrev main_call0_call0_v52 : Ref sig .tc := ⟨.hbm, 112, rfl⟩
abbrev main_call0_call0_v53 : Ref sig .tc := ⟨.hbm, 113, rfl⟩
abbrev main_call0_call0_v54 : Ref sig .tc := ⟨.hbm, 114, rfl⟩
abbrev main_call0_call0_c_13 : Ref sig .tc := ⟨.hbm, 115, rfl⟩
abbrev main_call0_call0_v55 : Ref sig .tc := ⟨.hbm, 116, rfl⟩
abbrev main_call0_call0_v56 : Ref sig .tc := ⟨.hbm, 117, rfl⟩
abbrev main_call0_call0_c_14 : Ref sig .tc := ⟨.hbm, 118, rfl⟩
abbrev main_call0_call0_v57 : Ref sig .tc := ⟨.hbm, 119, rfl⟩
abbrev main_call0_call0_v58 : Ref sig .tc := ⟨.hbm, 120, rfl⟩
abbrev main_call0_call0_v59 : Ref sig .tc := ⟨.hbm, 121, rfl⟩
abbrev main_call0_call0_v60 : Ref sig .tc := ⟨.hbm, 122, rfl⟩
abbrev main_call0_call0_v61 : Ref sig .tc := ⟨.hbm, 123, rfl⟩
abbrev main_call0_call0_c_15 : Ref sig .tc := ⟨.hbm, 124, rfl⟩
abbrev main_call0_call0_v62 : Ref sig .tc := ⟨.hbm, 125, rfl⟩
abbrev main_call0_call0_v63 : Ref sig .tc := ⟨.hbm, 126, rfl⟩
abbrev main_call0_call0_c_16 : Ref sig .tc := ⟨.hbm, 127, rfl⟩
abbrev main_call0_call0_v64 : Ref sig .tc := ⟨.hbm, 128, rfl⟩
abbrev main_call0_call0_v65 : Ref sig .tc := ⟨.hbm, 129, rfl⟩
abbrev main_call0_call0_v66 : Ref sig .tc := ⟨.hbm, 130, rfl⟩
abbrev main_call0_call0_v67 : Ref sig .tc := ⟨.hbm, 131, rfl⟩
abbrev main_call0_call0_v68 : Ref sig .tc := ⟨.hbm, 132, rfl⟩
abbrev main_call0_call0_v69 : Ref sig .tc := ⟨.hbm, 133, rfl⟩
abbrev main_call0_call0_v70 : Ref sig .tc := ⟨.hbm, 134, rfl⟩
abbrev main_call0_call0_v71 : Ref sig .tc := ⟨.hbm, 135, rfl⟩
abbrev main_call0_call0_c_17 : Ref sig .tc := ⟨.hbm, 136, rfl⟩
abbrev main_call0_call0_v72 : Ref sig .tc := ⟨.hbm, 137, rfl⟩
abbrev main_call0_call0_v73 : Ref sig .tc := ⟨.hbm, 138, rfl⟩
abbrev main_call0_call0_v74 : Ref sig .tc := ⟨.hbm, 139, rfl⟩
abbrev main_call0_call0_c_18 : Ref sig .tc := ⟨.hbm, 140, rfl⟩
abbrev main_call0_call0_v75 : Ref sig .tc := ⟨.hbm, 141, rfl⟩
abbrev main_call0_call0_v76 : Ref sig .tc := ⟨.hbm, 142, rfl⟩
abbrev main_call0_call0_c_19 : Ref sig .tc := ⟨.hbm, 143, rfl⟩
abbrev main_call0_call0_v77 : Ref sig .tc := ⟨.hbm, 144, rfl⟩
abbrev main_call0_call0_v78 : Ref sig .tc := ⟨.hbm, 145, rfl⟩
abbrev main_call0_call0_v79 : Ref sig .tc := ⟨.hbm, 146, rfl⟩
abbrev main_call0_call0_v80 : Ref sig .tc := ⟨.hbm, 147, rfl⟩
abbrev main_call0_call0_v81 : Ref sig .tc := ⟨.hbm, 148, rfl⟩
abbrev main_call0_call0_c_20 : Ref sig .tc := ⟨.hbm, 149, rfl⟩
abbrev main_call0_call0_v82 : Ref sig .tc := ⟨.hbm, 150, rfl⟩
abbrev main_call0_call0_v83 : Ref sig .tc := ⟨.hbm, 151, rfl⟩
abbrev main_call0_call0_c_21 : Ref sig .tc := ⟨.hbm, 152, rfl⟩
abbrev main_call0_call0_v84 : Ref sig .tc := ⟨.hbm, 153, rfl⟩
abbrev main_call0_call0_v85 : Ref sig .tc := ⟨.hbm, 154, rfl⟩
abbrev main_call0_call0_v86 : Ref sig .tc := ⟨.hbm, 155, rfl⟩
abbrev main_call0_call0_v87 : Ref sig .tc := ⟨.hbm, 156, rfl⟩
abbrev main_call0_call0_v88 : Ref sig .tc := ⟨.hbm, 157, rfl⟩
abbrev main_call0_call0_c_22 : Ref sig .tc := ⟨.hbm, 158, rfl⟩
abbrev main_call0_call0_v89 : Ref sig .tc := ⟨.hbm, 159, rfl⟩
abbrev main_call0_call0_v90 : Ref sig .tc := ⟨.hbm, 160, rfl⟩
abbrev main_call0_call0_c_23 : Ref sig .tc := ⟨.hbm, 161, rfl⟩
abbrev main_call0_call0_v91 : Ref sig .tc := ⟨.hbm, 162, rfl⟩
abbrev main_call0_call0_v92 : Ref sig .tc := ⟨.hbm, 163, rfl⟩
abbrev main_call0_call0_v93 : Ref sig .tc := ⟨.hbm, 164, rfl⟩
abbrev main_call0_call0_v94 : Ref sig .tc := ⟨.hbm, 165, rfl⟩
abbrev main_call0_call0_v95 : Ref sig .tc := ⟨.hbm, 166, rfl⟩
abbrev main_call0_call0_c_24 : Ref sig .tc := ⟨.hbm, 167, rfl⟩
abbrev main_call0_call0_v96 : Ref sig .tc := ⟨.hbm, 168, rfl⟩
abbrev main_call0_call0_v97 : Ref sig .tc := ⟨.hbm, 169, rfl⟩
abbrev main_call0_call0_c_25 : Ref sig .tc := ⟨.hbm, 170, rfl⟩
abbrev main_call0_call0_v98 : Ref sig .tc := ⟨.hbm, 171, rfl⟩
abbrev main_call0_call0_v99 : Ref sig .tc := ⟨.hbm, 172, rfl⟩
abbrev main_call0_call0_v100 : Ref sig .tc := ⟨.hbm, 173, rfl⟩
abbrev main_call0_call0_v101 : Ref sig .tc := ⟨.hbm, 174, rfl⟩
abbrev main_call0_call0_v102 : Ref sig .tc := ⟨.hbm, 175, rfl⟩
abbrev main_call0_call0_v103 : Ref sig .tc := ⟨.hbm, 176, rfl⟩
abbrev main_call0_call0_v104 : Ref sig .tc := ⟨.hbm, 177, rfl⟩
abbrev main_call0_call0_v105 : Ref sig .tc := ⟨.hbm, 178, rfl⟩
abbrev main_call0_call0_c_26 : Ref sig .tc := ⟨.hbm, 179, rfl⟩
abbrev main_call0_call0_v106 : Ref sig .tc := ⟨.hbm, 180, rfl⟩
abbrev main_call0_call0_v107 : Ref sig .tc := ⟨.hbm, 181, rfl⟩
abbrev main_call0_call0_v108 : Ref sig .tc := ⟨.hbm, 182, rfl⟩
abbrev main_call0_call0_c_27 : Ref sig .tc := ⟨.hbm, 183, rfl⟩
abbrev main_call0_call0_v109 : Ref sig .tc := ⟨.hbm, 184, rfl⟩
abbrev main_call0_call0_v110 : Ref sig .tc := ⟨.hbm, 185, rfl⟩
abbrev main_call0_call0_c_28 : Ref sig .tc := ⟨.hbm, 186, rfl⟩
abbrev main_call0_call0_v111 : Ref sig .tc := ⟨.hbm, 187, rfl⟩
abbrev main_call0_call0_v112 : Ref sig .tc := ⟨.hbm, 188, rfl⟩
abbrev main_call0_call0_v113 : Ref sig .tc := ⟨.hbm, 189, rfl⟩
abbrev main_call0_call0_v114 : Ref sig .tc := ⟨.hbm, 190, rfl⟩
abbrev main_call0_call0_v115 : Ref sig .tc := ⟨.hbm, 191, rfl⟩
abbrev main_call0_call0_c_29 : Ref sig .tc := ⟨.hbm, 192, rfl⟩
abbrev main_call0_call0_v116 : Ref sig .tc := ⟨.hbm, 193, rfl⟩
abbrev main_call0_call0_v117 : Ref sig .tc := ⟨.hbm, 194, rfl⟩
abbrev main_call0_call0_c_30 : Ref sig .tc := ⟨.hbm, 195, rfl⟩
abbrev main_call0_call0_v118 : Ref sig .tc := ⟨.hbm, 196, rfl⟩
abbrev main_call0_call0_v119 : Ref sig .tc := ⟨.hbm, 197, rfl⟩
abbrev main_call0_call0_v120 : Ref sig .tc := ⟨.hbm, 198, rfl⟩
abbrev main_call0_call0_v121 : Ref sig .tc := ⟨.hbm, 199, rfl⟩
abbrev main_call0_call0_v122 : Ref sig .tc := ⟨.hbm, 200, rfl⟩
abbrev main_call0_call0_c_31 : Ref sig .tc := ⟨.hbm, 201, rfl⟩
abbrev main_call0_call0_v123 : Ref sig .tc := ⟨.hbm, 202, rfl⟩
abbrev main_call0_call0_v124 : Ref sig .tc := ⟨.hbm, 203, rfl⟩
abbrev main_call0_call0_c_32 : Ref sig .tc := ⟨.hbm, 204, rfl⟩
abbrev main_call0_call0_v125 : Ref sig .tc := ⟨.hbm, 205, rfl⟩
abbrev main_call0_call0_v126 : Ref sig .tc := ⟨.hbm, 206, rfl⟩
abbrev main_call0_call0_v127 : Ref sig .tc := ⟨.hbm, 207, rfl⟩
abbrev main_call0_call0_v128 : Ref sig .tc := ⟨.hbm, 208, rfl⟩
abbrev main_call0_call0_v129 : Ref sig .tc := ⟨.hbm, 209, rfl⟩
abbrev main_call0_call0_c_33 : Ref sig .tc := ⟨.hbm, 210, rfl⟩
abbrev main_call0_call0_v130 : Ref sig .tc := ⟨.hbm, 211, rfl⟩
abbrev main_call0_call0_v131 : Ref sig .tc := ⟨.hbm, 212, rfl⟩
abbrev main_call0_call0_c_34 : Ref sig .tc := ⟨.hbm, 213, rfl⟩
abbrev main_call0_call0_v132 : Ref sig .tc := ⟨.hbm, 214, rfl⟩
abbrev main_call0_call0_v133 : Ref sig .tc := ⟨.hbm, 215, rfl⟩
abbrev main_call0_call0_v134 : Ref sig .tc := ⟨.hbm, 216, rfl⟩
abbrev main_call0_call0_v135 : Ref sig .tc := ⟨.hbm, 217, rfl⟩
abbrev main_call0_call0_v136 : Ref sig .tc := ⟨.hbm, 218, rfl⟩
abbrev main_call0_call0_v137 : Ref sig .tc := ⟨.hbm, 219, rfl⟩
abbrev main_call0_call0_v138 : Ref sig .tc := ⟨.hbm, 220, rfl⟩
abbrev main_call0_call0_v139 : Ref sig .tc := ⟨.hbm, 221, rfl⟩
abbrev main_call0_call0_c_35 : Ref sig .tc := ⟨.hbm, 222, rfl⟩
abbrev main_call0_call0_v140 : Ref sig .tc := ⟨.hbm, 223, rfl⟩
abbrev main_call0_call0_v141 : Ref sig .tc := ⟨.hbm, 224, rfl⟩
abbrev main_call0_call0_v142 : Ref sig .tc := ⟨.hbm, 225, rfl⟩
abbrev main_call0_call0_c_36 : Ref sig .tc := ⟨.hbm, 226, rfl⟩
abbrev main_call0_call0_v143 : Ref sig .tc := ⟨.hbm, 227, rfl⟩
abbrev main_call0_call0_v144 : Ref sig .tc := ⟨.hbm, 228, rfl⟩
abbrev main_call0_call0_c_37 : Ref sig .tc := ⟨.hbm, 229, rfl⟩
abbrev main_call0_call0_v145 : Ref sig .tc := ⟨.hbm, 230, rfl⟩
abbrev main_call0_call0_v146 : Ref sig .tc := ⟨.hbm, 231, rfl⟩
abbrev main_call0_call0_v147 : Ref sig .tc := ⟨.hbm, 232, rfl⟩
abbrev main_call0_call0_v148 : Ref sig .tc := ⟨.hbm, 233, rfl⟩
abbrev main_call0_call0_v149 : Ref sig .tc := ⟨.hbm, 234, rfl⟩
abbrev main_call0_call0_c_38 : Ref sig .tc := ⟨.hbm, 235, rfl⟩
abbrev main_call0_call0_v150 : Ref sig .tc := ⟨.hbm, 236, rfl⟩
abbrev main_call0_call0_v151 : Ref sig .tc := ⟨.hbm, 237, rfl⟩
abbrev main_call0_call0_c_39 : Ref sig .tc := ⟨.hbm, 238, rfl⟩
abbrev main_call0_call0_v152 : Ref sig .tc := ⟨.hbm, 239, rfl⟩
abbrev main_call0_call0_v153 : Ref sig .tc := ⟨.hbm, 240, rfl⟩
abbrev main_call0_call0_v154 : Ref sig .tc := ⟨.hbm, 241, rfl⟩
abbrev main_call0_call0_v155 : Ref sig .tc := ⟨.hbm, 242, rfl⟩
abbrev main_call0_call0_v156 : Ref sig .tc := ⟨.hbm, 243, rfl⟩
abbrev main_call0_call0_c_40 : Ref sig .tc := ⟨.hbm, 244, rfl⟩
abbrev main_call0_call0_v157 : Ref sig .tc := ⟨.hbm, 245, rfl⟩
abbrev main_call0_call0_v158 : Ref sig .tc := ⟨.hbm, 246, rfl⟩
abbrev main_call0_call0_c_41 : Ref sig .tc := ⟨.hbm, 247, rfl⟩
abbrev main_call0_call0_v159 : Ref sig .tc := ⟨.hbm, 248, rfl⟩
abbrev main_call0_call0_v160 : Ref sig .tc := ⟨.hbm, 249, rfl⟩
abbrev main_call0_call0_v161 : Ref sig .tc := ⟨.hbm, 250, rfl⟩
abbrev main_call0_call0_v162 : Ref sig .tc := ⟨.hbm, 251, rfl⟩
abbrev main_call0_call0_v163 : Ref sig .tc := ⟨.hbm, 252, rfl⟩
abbrev main_call0_call0_c_42 : Ref sig .tc := ⟨.hbm, 253, rfl⟩
abbrev main_call0_call0_v164 : Ref sig .tc := ⟨.hbm, 254, rfl⟩
abbrev main_call0_call0_v165 : Ref sig .tc := ⟨.hbm, 255, rfl⟩
abbrev main_call0_call0_c_43 : Ref sig .tc := ⟨.hbm, 256, rfl⟩
abbrev main_call0_call0_v166 : Ref sig .tc := ⟨.hbm, 257, rfl⟩
abbrev main_call0_call0_v167 : Ref sig .tc := ⟨.hbm, 258, rfl⟩
abbrev main_call0_call0_v168 : Ref sig .tc := ⟨.hbm, 259, rfl⟩
abbrev main_call0_call0_v169 : Ref sig .tc := ⟨.hbm, 260, rfl⟩
abbrev main_call0_call0_v170 : Ref sig .tc := ⟨.hbm, 261, rfl⟩
abbrev main_call0_v11_0 : Ref sig .tc := ⟨.hbm, 262, rfl⟩
abbrev main_call0_call0_v172 : Ref sig .tc := ⟨.hbm, 263, rfl⟩
abbrev main_call0_call0_v173 : Ref sig .tc := ⟨.hbm, 264, rfl⟩
abbrev main_call0_call0_c_44 : Ref sig .tc := ⟨.hbm, 265, rfl⟩
abbrev main_call0_call0_v174 : Ref sig .tc := ⟨.hbm, 266, rfl⟩
abbrev main_call0_v11_1 : Ref sig .tc := ⟨.hbm, 267, rfl⟩
abbrev main_v23 : Ref sig .tc := ⟨.hbm, 268, rfl⟩
abbrev main_cst_7 : Ref sig .tc := ⟨.hbm, 269, rfl⟩
abbrev main_cst_8 : Ref sig .tc := ⟨.hbm, 270, rfl⟩
abbrev main_call1_v0 : Ref sig .tc := ⟨.hbm, 271, rfl⟩
abbrev main_call1_v1 : Ref sig .tc := ⟨.hbm, 272, rfl⟩
abbrev main_call1_v2 : Ref sig .tc := ⟨.hbm, 273, rfl⟩
abbrev main_call1_v3 : Ref sig .tc := ⟨.hbm, 274, rfl⟩
abbrev main_call1_v4 : Ref sig .tc := ⟨.hbm, 275, rfl⟩
abbrev main_call1_v5 : Ref sig .tc := ⟨.hbm, 276, rfl⟩
abbrev main_call1_v6 : Ref sig .tc := ⟨.hbm, 277, rfl⟩
abbrev main_call1_v7 : Ref sig .tc := ⟨.hbm, 278, rfl⟩
abbrev main_call1_v8 : Ref sig .tc := ⟨.hbm, 279, rfl⟩
abbrev main_call1_v9 : Ref sig .tc := ⟨.hbm, 280, rfl⟩
abbrev main_call1_c : Ref sig .tc := ⟨.hbm, 281, rfl⟩
abbrev main_call1_v10 : Ref sig .tc := ⟨.hbm, 282, rfl⟩
abbrev main_call1_v11 : Ref sig .tc := ⟨.hbm, 283, rfl⟩
abbrev main_call1_c_0 : Ref sig .tc := ⟨.hbm, 284, rfl⟩
abbrev main_call1_v12 : Ref sig .tc := ⟨.hbm, 285, rfl⟩
abbrev main_call1_v13 : Ref sig .tc := ⟨.hbm, 286, rfl⟩
abbrev main_call1_v14 : Ref sig .tc := ⟨.hbm, 287, rfl⟩
abbrev main_call1_c_1 : Ref sig .tc := ⟨.hbm, 288, rfl⟩
abbrev main_call1_v15 : Ref sig .tc := ⟨.hbm, 289, rfl⟩
abbrev main_call1_v16 : Ref sig .tc := ⟨.hbm, 290, rfl⟩
abbrev main_call1_v17 : Ref sig .tc := ⟨.hbm, 291, rfl⟩
abbrev main_call1_v18 : Ref sig .tc := ⟨.hbm, 292, rfl⟩
abbrev main_call1_call0_v0 : Ref sig .tc := ⟨.hbm, 293, rfl⟩
abbrev main_call1_call0_c : Ref sig .tc := ⟨.hbm, 294, rfl⟩
abbrev main_call1_call0_v1 : Ref sig .tc := ⟨.hbm, 295, rfl⟩
abbrev main_call1_call0_v2 : Ref sig .tc := ⟨.hbm, 296, rfl⟩
abbrev main_call1_call0_v3 : Ref sig .tc := ⟨.hbm, 297, rfl⟩
abbrev main_call1_call0_v4 : Ref sig .tc := ⟨.hbm, 298, rfl⟩
abbrev main_call1_call0_v5 : Ref sig .tc := ⟨.hbm, 299, rfl⟩
abbrev main_call1_call0_v6 : Ref sig .tc := ⟨.hbm, 300, rfl⟩
abbrev main_call1_call0_c_0 : Ref sig .tc := ⟨.hbm, 301, rfl⟩
abbrev main_call1_call0_v7 : Ref sig .tc := ⟨.hbm, 302, rfl⟩
abbrev main_call1_call0_v8 : Ref sig .tc := ⟨.hbm, 303, rfl⟩
abbrev main_call1_call0_c_1 : Ref sig .tc := ⟨.hbm, 304, rfl⟩
abbrev main_call1_call0_v9 : Ref sig .tc := ⟨.hbm, 305, rfl⟩
abbrev main_call1_call0_v10 : Ref sig .tc := ⟨.hbm, 306, rfl⟩
abbrev main_call1_call0_v11 : Ref sig .tc := ⟨.hbm, 307, rfl⟩
abbrev main_call1_call0_v12 : Ref sig .tc := ⟨.hbm, 308, rfl⟩
abbrev main_call1_call0_v13 : Ref sig .tc := ⟨.hbm, 309, rfl⟩
abbrev main_call1_call0_c_2 : Ref sig .tc := ⟨.hbm, 310, rfl⟩
abbrev main_call1_call0_v14 : Ref sig .tc := ⟨.hbm, 311, rfl⟩
abbrev main_call1_call0_v15 : Ref sig .tc := ⟨.hbm, 312, rfl⟩
abbrev main_call1_call0_c_3 : Ref sig .tc := ⟨.hbm, 313, rfl⟩
abbrev main_call1_call0_v16 : Ref sig .tc := ⟨.hbm, 314, rfl⟩
abbrev main_call1_call0_v17 : Ref sig .tc := ⟨.hbm, 315, rfl⟩
abbrev main_call1_call0_v18 : Ref sig .tc := ⟨.hbm, 316, rfl⟩
abbrev main_call1_call0_v19 : Ref sig .tc := ⟨.hbm, 317, rfl⟩
abbrev main_call1_call0_v20 : Ref sig .tc := ⟨.hbm, 318, rfl⟩
abbrev main_call1_call0_c_4 : Ref sig .tc := ⟨.hbm, 319, rfl⟩
abbrev main_call1_call0_v21 : Ref sig .tc := ⟨.hbm, 320, rfl⟩
abbrev main_call1_call0_v22 : Ref sig .tc := ⟨.hbm, 321, rfl⟩
abbrev main_call1_call0_c_5 : Ref sig .tc := ⟨.hbm, 322, rfl⟩
abbrev main_call1_call0_v23 : Ref sig .tc := ⟨.hbm, 323, rfl⟩
abbrev main_call1_call0_v24 : Ref sig .tc := ⟨.hbm, 324, rfl⟩
abbrev main_call1_call0_v25 : Ref sig .tc := ⟨.hbm, 325, rfl⟩
abbrev main_call1_call0_v26 : Ref sig .tc := ⟨.hbm, 326, rfl⟩
abbrev main_call1_call0_v27 : Ref sig .tc := ⟨.hbm, 327, rfl⟩
abbrev main_call1_call0_c_6 : Ref sig .tc := ⟨.hbm, 328, rfl⟩
abbrev main_call1_call0_v28 : Ref sig .tc := ⟨.hbm, 329, rfl⟩
abbrev main_call1_call0_v29 : Ref sig .tc := ⟨.hbm, 330, rfl⟩
abbrev main_call1_call0_c_7 : Ref sig .tc := ⟨.hbm, 331, rfl⟩
abbrev main_call1_call0_v30 : Ref sig .tc := ⟨.hbm, 332, rfl⟩
abbrev main_call1_call0_v31 : Ref sig .tc := ⟨.hbm, 333, rfl⟩
abbrev main_call1_call0_v32 : Ref sig .tc := ⟨.hbm, 334, rfl⟩
abbrev main_call1_call0_v33 : Ref sig .tc := ⟨.hbm, 335, rfl⟩
abbrev main_call1_call0_v34 : Ref sig .tc := ⟨.hbm, 336, rfl⟩
abbrev main_call1_call0_v35 : Ref sig .tc := ⟨.hbm, 337, rfl⟩
abbrev main_call1_call0_v36 : Ref sig .tc := ⟨.hbm, 338, rfl⟩
abbrev main_call1_call0_v37 : Ref sig .tc := ⟨.hbm, 339, rfl⟩
abbrev main_call1_call0_c_8 : Ref sig .tc := ⟨.hbm, 340, rfl⟩
abbrev main_call1_call0_v38 : Ref sig .tc := ⟨.hbm, 341, rfl⟩
abbrev main_call1_call0_v39 : Ref sig .tc := ⟨.hbm, 342, rfl⟩
abbrev main_call1_call0_v40 : Ref sig .tc := ⟨.hbm, 343, rfl⟩
abbrev main_call1_call0_c_9 : Ref sig .tc := ⟨.hbm, 344, rfl⟩
abbrev main_call1_call0_v41 : Ref sig .tc := ⟨.hbm, 345, rfl⟩
abbrev main_call1_call0_v42 : Ref sig .tc := ⟨.hbm, 346, rfl⟩
abbrev main_call1_call0_c_10 : Ref sig .tc := ⟨.hbm, 347, rfl⟩
abbrev main_call1_call0_v43 : Ref sig .tc := ⟨.hbm, 348, rfl⟩
abbrev main_call1_call0_v44 : Ref sig .tc := ⟨.hbm, 349, rfl⟩
abbrev main_call1_call0_v45 : Ref sig .tc := ⟨.hbm, 350, rfl⟩
abbrev main_call1_call0_v46 : Ref sig .tc := ⟨.hbm, 351, rfl⟩
abbrev main_call1_call0_v47 : Ref sig .tc := ⟨.hbm, 352, rfl⟩
abbrev main_call1_call0_c_11 : Ref sig .tc := ⟨.hbm, 353, rfl⟩
abbrev main_call1_call0_v48 : Ref sig .tc := ⟨.hbm, 354, rfl⟩
abbrev main_call1_call0_v49 : Ref sig .tc := ⟨.hbm, 355, rfl⟩
abbrev main_call1_call0_c_12 : Ref sig .tc := ⟨.hbm, 356, rfl⟩
abbrev main_call1_call0_v50 : Ref sig .tc := ⟨.hbm, 357, rfl⟩
abbrev main_call1_call0_v51 : Ref sig .tc := ⟨.hbm, 358, rfl⟩
abbrev main_call1_call0_v52 : Ref sig .tc := ⟨.hbm, 359, rfl⟩
abbrev main_call1_call0_v53 : Ref sig .tc := ⟨.hbm, 360, rfl⟩
abbrev main_call1_call0_v54 : Ref sig .tc := ⟨.hbm, 361, rfl⟩
abbrev main_call1_call0_c_13 : Ref sig .tc := ⟨.hbm, 362, rfl⟩
abbrev main_call1_call0_v55 : Ref sig .tc := ⟨.hbm, 363, rfl⟩
abbrev main_call1_call0_v56 : Ref sig .tc := ⟨.hbm, 364, rfl⟩
abbrev main_call1_call0_c_14 : Ref sig .tc := ⟨.hbm, 365, rfl⟩
abbrev main_call1_call0_v57 : Ref sig .tc := ⟨.hbm, 366, rfl⟩
abbrev main_call1_call0_v58 : Ref sig .tc := ⟨.hbm, 367, rfl⟩
abbrev main_call1_call0_v59 : Ref sig .tc := ⟨.hbm, 368, rfl⟩
abbrev main_call1_call0_v60 : Ref sig .tc := ⟨.hbm, 369, rfl⟩
abbrev main_call1_call0_v61 : Ref sig .tc := ⟨.hbm, 370, rfl⟩
abbrev main_call1_call0_c_15 : Ref sig .tc := ⟨.hbm, 371, rfl⟩
abbrev main_call1_call0_v62 : Ref sig .tc := ⟨.hbm, 372, rfl⟩
abbrev main_call1_call0_v63 : Ref sig .tc := ⟨.hbm, 373, rfl⟩
abbrev main_call1_call0_c_16 : Ref sig .tc := ⟨.hbm, 374, rfl⟩
abbrev main_call1_call0_v64 : Ref sig .tc := ⟨.hbm, 375, rfl⟩
abbrev main_call1_call0_v65 : Ref sig .tc := ⟨.hbm, 376, rfl⟩
abbrev main_call1_call0_v66 : Ref sig .tc := ⟨.hbm, 377, rfl⟩
abbrev main_call1_call0_v67 : Ref sig .tc := ⟨.hbm, 378, rfl⟩
abbrev main_call1_call0_v68 : Ref sig .tc := ⟨.hbm, 379, rfl⟩
abbrev main_call1_call0_v69 : Ref sig .tc := ⟨.hbm, 380, rfl⟩
abbrev main_call1_call0_v70 : Ref sig .tc := ⟨.hbm, 381, rfl⟩
abbrev main_call1_call0_v71 : Ref sig .tc := ⟨.hbm, 382, rfl⟩
abbrev main_call1_call0_c_17 : Ref sig .tc := ⟨.hbm, 383, rfl⟩
abbrev main_call1_call0_v72 : Ref sig .tc := ⟨.hbm, 384, rfl⟩
abbrev main_call1_call0_v73 : Ref sig .tc := ⟨.hbm, 385, rfl⟩
abbrev main_call1_call0_v74 : Ref sig .tc := ⟨.hbm, 386, rfl⟩
abbrev main_call1_call0_c_18 : Ref sig .tc := ⟨.hbm, 387, rfl⟩
abbrev main_call1_call0_v75 : Ref sig .tc := ⟨.hbm, 388, rfl⟩
abbrev main_call1_call0_v76 : Ref sig .tc := ⟨.hbm, 389, rfl⟩
abbrev main_call1_call0_c_19 : Ref sig .tc := ⟨.hbm, 390, rfl⟩
abbrev main_call1_call0_v77 : Ref sig .tc := ⟨.hbm, 391, rfl⟩
abbrev main_call1_call0_v78 : Ref sig .tc := ⟨.hbm, 392, rfl⟩
abbrev main_call1_call0_v79 : Ref sig .tc := ⟨.hbm, 393, rfl⟩
abbrev main_call1_call0_v80 : Ref sig .tc := ⟨.hbm, 394, rfl⟩
abbrev main_call1_call0_v81 : Ref sig .tc := ⟨.hbm, 395, rfl⟩
abbrev main_call1_call0_c_20 : Ref sig .tc := ⟨.hbm, 396, rfl⟩
abbrev main_call1_call0_v82 : Ref sig .tc := ⟨.hbm, 397, rfl⟩
abbrev main_call1_call0_v83 : Ref sig .tc := ⟨.hbm, 398, rfl⟩
abbrev main_call1_call0_c_21 : Ref sig .tc := ⟨.hbm, 399, rfl⟩
abbrev main_call1_call0_v84 : Ref sig .tc := ⟨.hbm, 400, rfl⟩
abbrev main_call1_call0_v85 : Ref sig .tc := ⟨.hbm, 401, rfl⟩
abbrev main_call1_call0_v86 : Ref sig .tc := ⟨.hbm, 402, rfl⟩
abbrev main_call1_call0_v87 : Ref sig .tc := ⟨.hbm, 403, rfl⟩
abbrev main_call1_call0_v88 : Ref sig .tc := ⟨.hbm, 404, rfl⟩
abbrev main_call1_call0_c_22 : Ref sig .tc := ⟨.hbm, 405, rfl⟩
abbrev main_call1_call0_v89 : Ref sig .tc := ⟨.hbm, 406, rfl⟩
abbrev main_call1_call0_v90 : Ref sig .tc := ⟨.hbm, 407, rfl⟩
abbrev main_call1_call0_c_23 : Ref sig .tc := ⟨.hbm, 408, rfl⟩
abbrev main_call1_call0_v91 : Ref sig .tc := ⟨.hbm, 409, rfl⟩
abbrev main_call1_call0_v92 : Ref sig .tc := ⟨.hbm, 410, rfl⟩
abbrev main_call1_call0_v93 : Ref sig .tc := ⟨.hbm, 411, rfl⟩
abbrev main_call1_call0_v94 : Ref sig .tc := ⟨.hbm, 412, rfl⟩
abbrev main_call1_call0_v95 : Ref sig .tc := ⟨.hbm, 413, rfl⟩
abbrev main_call1_call0_c_24 : Ref sig .tc := ⟨.hbm, 414, rfl⟩
abbrev main_call1_call0_v96 : Ref sig .tc := ⟨.hbm, 415, rfl⟩
abbrev main_call1_call0_v97 : Ref sig .tc := ⟨.hbm, 416, rfl⟩
abbrev main_call1_call0_c_25 : Ref sig .tc := ⟨.hbm, 417, rfl⟩
abbrev main_call1_call0_v98 : Ref sig .tc := ⟨.hbm, 418, rfl⟩
abbrev main_call1_call0_v99 : Ref sig .tc := ⟨.hbm, 419, rfl⟩
abbrev main_call1_call0_v100 : Ref sig .tc := ⟨.hbm, 420, rfl⟩
abbrev main_call1_call0_v101 : Ref sig .tc := ⟨.hbm, 421, rfl⟩
abbrev main_call1_call0_v102 : Ref sig .tc := ⟨.hbm, 422, rfl⟩
abbrev main_call1_call0_v103 : Ref sig .tc := ⟨.hbm, 423, rfl⟩
abbrev main_call1_call0_v104 : Ref sig .tc := ⟨.hbm, 424, rfl⟩
abbrev main_call1_call0_v105 : Ref sig .tc := ⟨.hbm, 425, rfl⟩
abbrev main_call1_call0_c_26 : Ref sig .tc := ⟨.hbm, 426, rfl⟩
abbrev main_call1_call0_v106 : Ref sig .tc := ⟨.hbm, 427, rfl⟩
abbrev main_call1_call0_v107 : Ref sig .tc := ⟨.hbm, 428, rfl⟩
abbrev main_call1_call0_v108 : Ref sig .tc := ⟨.hbm, 429, rfl⟩
abbrev main_call1_call0_c_27 : Ref sig .tc := ⟨.hbm, 430, rfl⟩
abbrev main_call1_call0_v109 : Ref sig .tc := ⟨.hbm, 431, rfl⟩
abbrev main_call1_call0_v110 : Ref sig .tc := ⟨.hbm, 432, rfl⟩
abbrev main_call1_call0_c_28 : Ref sig .tc := ⟨.hbm, 433, rfl⟩
abbrev main_call1_call0_v111 : Ref sig .tc := ⟨.hbm, 434, rfl⟩
abbrev main_call1_call0_v112 : Ref sig .tc := ⟨.hbm, 435, rfl⟩
abbrev main_call1_call0_v113 : Ref sig .tc := ⟨.hbm, 436, rfl⟩
abbrev main_call1_call0_v114 : Ref sig .tc := ⟨.hbm, 437, rfl⟩
abbrev main_call1_call0_v115 : Ref sig .tc := ⟨.hbm, 438, rfl⟩
abbrev main_call1_call0_c_29 : Ref sig .tc := ⟨.hbm, 439, rfl⟩
abbrev main_call1_call0_v116 : Ref sig .tc := ⟨.hbm, 440, rfl⟩
abbrev main_call1_call0_v117 : Ref sig .tc := ⟨.hbm, 441, rfl⟩
abbrev main_call1_call0_c_30 : Ref sig .tc := ⟨.hbm, 442, rfl⟩
abbrev main_call1_call0_v118 : Ref sig .tc := ⟨.hbm, 443, rfl⟩
abbrev main_call1_call0_v119 : Ref sig .tc := ⟨.hbm, 444, rfl⟩
abbrev main_call1_call0_v120 : Ref sig .tc := ⟨.hbm, 445, rfl⟩
abbrev main_call1_call0_v121 : Ref sig .tc := ⟨.hbm, 446, rfl⟩
abbrev main_call1_call0_v122 : Ref sig .tc := ⟨.hbm, 447, rfl⟩
abbrev main_call1_call0_c_31 : Ref sig .tc := ⟨.hbm, 448, rfl⟩
abbrev main_call1_call0_v123 : Ref sig .tc := ⟨.hbm, 449, rfl⟩
abbrev main_call1_call0_v124 : Ref sig .tc := ⟨.hbm, 450, rfl⟩
abbrev main_call1_call0_c_32 : Ref sig .tc := ⟨.hbm, 451, rfl⟩
abbrev main_call1_call0_v125 : Ref sig .tc := ⟨.hbm, 452, rfl⟩
abbrev main_call1_call0_v126 : Ref sig .tc := ⟨.hbm, 453, rfl⟩
abbrev main_call1_call0_v127 : Ref sig .tc := ⟨.hbm, 454, rfl⟩
abbrev main_call1_call0_v128 : Ref sig .tc := ⟨.hbm, 455, rfl⟩
abbrev main_call1_call0_v129 : Ref sig .tc := ⟨.hbm, 456, rfl⟩
abbrev main_call1_call0_c_33 : Ref sig .tc := ⟨.hbm, 457, rfl⟩
abbrev main_call1_call0_v130 : Ref sig .tc := ⟨.hbm, 458, rfl⟩
abbrev main_call1_call0_v131 : Ref sig .tc := ⟨.hbm, 459, rfl⟩
abbrev main_call1_call0_c_34 : Ref sig .tc := ⟨.hbm, 460, rfl⟩
abbrev main_call1_call0_v132 : Ref sig .tc := ⟨.hbm, 461, rfl⟩
abbrev main_call1_call0_v133 : Ref sig .tc := ⟨.hbm, 462, rfl⟩
abbrev main_call1_call0_v134 : Ref sig .tc := ⟨.hbm, 463, rfl⟩
abbrev main_call1_call0_v135 : Ref sig .tc := ⟨.hbm, 464, rfl⟩
abbrev main_call1_call0_v136 : Ref sig .tc := ⟨.hbm, 465, rfl⟩
abbrev main_call1_call0_v137 : Ref sig .tc := ⟨.hbm, 466, rfl⟩
abbrev main_call1_call0_v138 : Ref sig .tc := ⟨.hbm, 467, rfl⟩
abbrev main_call1_call0_v139 : Ref sig .tc := ⟨.hbm, 468, rfl⟩
abbrev main_call1_call0_c_35 : Ref sig .tc := ⟨.hbm, 469, rfl⟩
abbrev main_call1_call0_v140 : Ref sig .tc := ⟨.hbm, 470, rfl⟩
abbrev main_call1_call0_v141 : Ref sig .tc := ⟨.hbm, 471, rfl⟩
abbrev main_call1_call0_v142 : Ref sig .tc := ⟨.hbm, 472, rfl⟩
abbrev main_call1_call0_c_36 : Ref sig .tc := ⟨.hbm, 473, rfl⟩
abbrev main_call1_call0_v143 : Ref sig .tc := ⟨.hbm, 474, rfl⟩
abbrev main_call1_call0_v144 : Ref sig .tc := ⟨.hbm, 475, rfl⟩
abbrev main_call1_call0_c_37 : Ref sig .tc := ⟨.hbm, 476, rfl⟩
abbrev main_call1_call0_v145 : Ref sig .tc := ⟨.hbm, 477, rfl⟩
abbrev main_call1_call0_v146 : Ref sig .tc := ⟨.hbm, 478, rfl⟩
abbrev main_call1_call0_v147 : Ref sig .tc := ⟨.hbm, 479, rfl⟩
abbrev main_call1_call0_v148 : Ref sig .tc := ⟨.hbm, 480, rfl⟩
abbrev main_call1_call0_v149 : Ref sig .tc := ⟨.hbm, 481, rfl⟩
abbrev main_call1_call0_c_38 : Ref sig .tc := ⟨.hbm, 482, rfl⟩
abbrev main_call1_call0_v150 : Ref sig .tc := ⟨.hbm, 483, rfl⟩
abbrev main_call1_call0_v151 : Ref sig .tc := ⟨.hbm, 484, rfl⟩
abbrev main_call1_call0_c_39 : Ref sig .tc := ⟨.hbm, 485, rfl⟩
abbrev main_call1_call0_v152 : Ref sig .tc := ⟨.hbm, 486, rfl⟩
abbrev main_call1_call0_v153 : Ref sig .tc := ⟨.hbm, 487, rfl⟩
abbrev main_call1_call0_v154 : Ref sig .tc := ⟨.hbm, 488, rfl⟩
abbrev main_call1_call0_v155 : Ref sig .tc := ⟨.hbm, 489, rfl⟩
abbrev main_call1_call0_v156 : Ref sig .tc := ⟨.hbm, 490, rfl⟩
abbrev main_call1_call0_c_40 : Ref sig .tc := ⟨.hbm, 491, rfl⟩
abbrev main_call1_call0_v157 : Ref sig .tc := ⟨.hbm, 492, rfl⟩
abbrev main_call1_call0_v158 : Ref sig .tc := ⟨.hbm, 493, rfl⟩
abbrev main_call1_call0_c_41 : Ref sig .tc := ⟨.hbm, 494, rfl⟩
abbrev main_call1_call0_v159 : Ref sig .tc := ⟨.hbm, 495, rfl⟩
abbrev main_call1_call0_v160 : Ref sig .tc := ⟨.hbm, 496, rfl⟩
abbrev main_call1_call0_v161 : Ref sig .tc := ⟨.hbm, 497, rfl⟩
abbrev main_call1_call0_v162 : Ref sig .tc := ⟨.hbm, 498, rfl⟩
abbrev main_call1_call0_v163 : Ref sig .tc := ⟨.hbm, 499, rfl⟩
abbrev main_call1_call0_c_42 : Ref sig .tc := ⟨.hbm, 500, rfl⟩
abbrev main_call1_call0_v164 : Ref sig .tc := ⟨.hbm, 501, rfl⟩
abbrev main_call1_call0_v165 : Ref sig .tc := ⟨.hbm, 502, rfl⟩
abbrev main_call1_call0_c_43 : Ref sig .tc := ⟨.hbm, 503, rfl⟩
abbrev main_call1_call0_v166 : Ref sig .tc := ⟨.hbm, 504, rfl⟩
abbrev main_call1_call0_v167 : Ref sig .tc := ⟨.hbm, 505, rfl⟩
abbrev main_call1_call0_v168 : Ref sig .tc := ⟨.hbm, 506, rfl⟩
abbrev main_call1_call0_v169 : Ref sig .tc := ⟨.hbm, 507, rfl⟩
abbrev main_call1_call0_v170 : Ref sig .tc := ⟨.hbm, 508, rfl⟩
abbrev main_call1_v19_0 : Ref sig .tc := ⟨.hbm, 509, rfl⟩
abbrev main_call1_call0_v172 : Ref sig .tc := ⟨.hbm, 510, rfl⟩
abbrev main_call1_call0_v173 : Ref sig .tc := ⟨.hbm, 511, rfl⟩
abbrev main_call1_call0_c_44 : Ref sig .tc := ⟨.hbm, 512, rfl⟩
abbrev main_call1_call0_v174 : Ref sig .tc := ⟨.hbm, 513, rfl⟩
abbrev main_call1_v19_1 : Ref sig .tc := ⟨.hbm, 514, rfl⟩
abbrev main_call1_v20 : Ref sig .tc := ⟨.hbm, 515, rfl⟩
abbrev main_call1_c_2 : Ref sig .tc := ⟨.hbm, 516, rfl⟩
abbrev main_call1_v21 : Ref sig .tc := ⟨.hbm, 517, rfl⟩
abbrev main_call1_v22 : Ref sig .tc := ⟨.hbm, 518, rfl⟩
abbrev main_call1_c_3 : Ref sig .tc := ⟨.hbm, 519, rfl⟩
abbrev main_call1_v23 : Ref sig .tc := ⟨.hbm, 520, rfl⟩
abbrev main_call1_v24 : Ref sig .tc := ⟨.hbm, 521, rfl⟩
abbrev main_call1_v25 : Ref sig .tc := ⟨.hbm, 522, rfl⟩
abbrev main_call1_cst : Ref sig .tc := ⟨.hbm, 523, rfl⟩
abbrev main_call1_v26 : Ref sig .tc := ⟨.hbm, 524, rfl⟩
abbrev main_call1_v27 : Ref sig .tc := ⟨.hbm, 525, rfl⟩
abbrev main_call1_v28 : Ref sig .tc := ⟨.hbm, 526, rfl⟩
abbrev main_call1_v29 : Ref sig .tc := ⟨.hbm, 527, rfl⟩
abbrev main_call1_v30 : Ref sig .tc := ⟨.hbm, 528, rfl⟩
abbrev main_call1_v31 : Ref sig .tc := ⟨.hbm, 529, rfl⟩
abbrev main_call1_v32 : Ref sig .tc := ⟨.hbm, 530, rfl⟩
abbrev main_call1_v33 : Ref sig .tc := ⟨.hbm, 531, rfl⟩
abbrev main_v24 : Ref sig .tc := ⟨.hbm, 532, rfl⟩
abbrev main_v25 : Ref sig .tc := ⟨.hbm, 533, rfl⟩
abbrev main_v26 : Ref sig .tc := ⟨.hbm, 534, rfl⟩
abbrev main_c_9 : Ref sig .tc := ⟨.hbm, 535, rfl⟩
abbrev main_v27 : Ref sig .tc := ⟨.hbm, 536, rfl⟩
abbrev main_v28 : Ref sig .tc := ⟨.hbm, 537, rfl⟩
abbrev main_v29 : Ref sig .tc := ⟨.hbm, 538, rfl⟩
abbrev main_v30 : Ref sig .tc := ⟨.hbm, 539, rfl⟩
abbrev main_cst_10 : Ref sig .tc := ⟨.hbm, 540, rfl⟩
abbrev main_v31 : Ref sig .tc := ⟨.hbm, 541, rfl⟩
abbrev main_cst_11 : Ref sig .tc := ⟨.hbm, 542, rfl⟩
abbrev main_v32 : Ref sig .tc := ⟨.hbm, 543, rfl⟩
abbrev main_v33 : Ref sig .tc := ⟨.hbm, 544, rfl⟩
abbrev main_cst_12 : Ref sig .tc := ⟨.hbm, 545, rfl⟩
abbrev main_v34 : Ref sig .tc := ⟨.hbm, 546, rfl⟩
abbrev main_v35 : Ref sig .tc := ⟨.hbm, 547, rfl⟩
abbrev main_v36 : Ref sig .tc := ⟨.hbm, 548, rfl⟩
abbrev main_call2_v0 : Ref sig .tc := ⟨.hbm, 549, rfl⟩
abbrev main_v37 : Ref sig .tc := ⟨.hbm, 550, rfl⟩
abbrev main_values : Ref sig .tc := ⟨.hbm, 551, rfl⟩
abbrev main_indices : Ref sig .tc := ⟨.hbm, 552, rfl⟩
abbrev main_cst_13 : Ref sig .tc := ⟨.hbm, 553, rfl⟩
abbrev main_v38 : Ref sig .tc := ⟨.hbm, 554, rfl⟩
abbrev main_v39 : Ref sig .tc := ⟨.hbm, 555, rfl⟩
abbrev main_v40 : Ref sig .tc := ⟨.hbm, 556, rfl⟩
abbrev main_c_14 : Ref sig .tc := ⟨.hbm, 557, rfl⟩
abbrev main_v41 : Ref sig .tc := ⟨.hbm, 558, rfl⟩
abbrev main_v42 : Ref sig .tc := ⟨.hbm, 559, rfl⟩
abbrev main_c_15 : Ref sig .tc := ⟨.hbm, 560, rfl⟩
abbrev main_v43 : Ref sig .tc := ⟨.hbm, 561, rfl⟩
abbrev main_v44 : Ref sig .tc := ⟨.hbm, 562, rfl⟩
abbrev main_v45 : Ref sig .tc := ⟨.hbm, 563, rfl⟩
abbrev main_c_16 : Ref sig .tc := ⟨.hbm, 564, rfl⟩
abbrev main_v46 : Ref sig .tc := ⟨.hbm, 565, rfl⟩
abbrev main_v47 : Ref sig .tc := ⟨.hbm, 566, rfl⟩
abbrev main_c_17 : Ref sig .tc := ⟨.hbm, 567, rfl⟩
abbrev main_v48 : Ref sig .tc := ⟨.hbm, 568, rfl⟩
abbrev main_v49 : Ref sig .tc := ⟨.hbm, 569, rfl⟩
abbrev main_v50 : Ref sig .tc := ⟨.hbm, 570, rfl⟩
abbrev main_v51 : Ref sig .tc := ⟨.hbm, 571, rfl⟩
abbrev main_v52 : Ref sig .tc := ⟨.hbm, 572, rfl⟩
abbrev main_v53 : Ref sig .tc := ⟨.hbm, 573, rfl⟩
abbrev main_v54 : Ref sig .tc := ⟨.hbm, 574, rfl⟩
abbrev main_cst_18 : Ref sig .tc := ⟨.hbm, 575, rfl⟩
abbrev main_v55 : Ref sig .tc := ⟨.hbm, 576, rfl⟩
abbrev main_v56 : Ref sig .tc := ⟨.hbm, 577, rfl⟩
abbrev main_cst_19 : Ref sig .tc := ⟨.hbm, 578, rfl⟩
abbrev main_v57 : Ref sig .tc := ⟨.hbm, 579, rfl⟩
abbrev main_v58 : Ref sig .tc := ⟨.hbm, 580, rfl⟩
abbrev main_cst_20 : Ref sig .tc := ⟨.hbm, 581, rfl⟩
abbrev main_v59 : Ref sig .tc := ⟨.hbm, 582, rfl⟩
abbrev main_v60 : Ref sig .tc := ⟨.hbm, 583, rfl⟩
abbrev main_v61 : Ref sig .tc := ⟨.hbm, 584, rfl⟩
abbrev main_v62 : Ref sig .tc := ⟨.hbm, 585, rfl⟩
abbrev main_cst_21 : Ref sig .tc := ⟨.hbm, 586, rfl⟩
abbrev main_v63 : Ref sig .tc := ⟨.hbm, 587, rfl⟩
abbrev main_cst_22 : Ref sig .tc := ⟨.hbm, 588, rfl⟩
abbrev main_v64 : Ref sig .tc := ⟨.hbm, 589, rfl⟩
abbrev main_cst_23 : Ref sig .tc := ⟨.hbm, 590, rfl⟩
abbrev main_v65 : Ref sig .tc := ⟨.hbm, 591, rfl⟩
abbrev main_v66 : Ref sig .tc := ⟨.hbm, 592, rfl⟩
abbrev main_cst_24 : Ref sig .tc := ⟨.hbm, 593, rfl⟩
abbrev main_v67 : Ref sig .tc := ⟨.hbm, 594, rfl⟩
abbrev main_v68 : Ref sig .tc := ⟨.hbm, 595, rfl⟩
abbrev main_cst_25 : Ref sig .tc := ⟨.hbm, 596, rfl⟩
abbrev main_v69 : Ref sig .tc := ⟨.hbm, 597, rfl⟩
abbrev main_v70 : Ref sig .tc := ⟨.hbm, 598, rfl⟩
abbrev main_v71 : Ref sig .tc := ⟨.hbm, 599, rfl⟩
abbrev main_v72 : Ref sig .tc := ⟨.hbm, 600, rfl⟩
abbrev main_cst_26 : Ref sig .tc := ⟨.hbm, 601, rfl⟩
abbrev main_v73 : Ref sig .tc := ⟨.hbm, 602, rfl⟩
abbrev main_cst_27 : Ref sig .tc := ⟨.hbm, 603, rfl⟩
abbrev main_v74 : Ref sig .tc := ⟨.hbm, 604, rfl⟩
abbrev main_cst_28 : Ref sig .tc := ⟨.hbm, 605, rfl⟩
abbrev main_v75 : Ref sig .tc := ⟨.hbm, 606, rfl⟩
abbrev main_v76 : Ref sig .tc := ⟨.hbm, 607, rfl⟩
abbrev main_v77 : Ref sig .tc := ⟨.hbm, 608, rfl⟩

abbrev nD : Nat := 1
abbrev τ : Topo := Topo.v7x

variable {F : FTy → Type} [FloatOps F]
-- ==== Proof.KRuns.lean ====
module

public import proofs.«01_k».proof.Proof.Gen.KernelIdeal.Frame
public import proofs.«01_k».proof.Proof.Gen.KernelIdeal.Skeleton
public import Idealize.ShloMosaic.Lib.VecWindow

/-! The kernel's body, run once for each of the four kinds of grid point.

A point of the first sweep stores the exponentials of its rows in the row cache, adds their column sums to the running
column sums and adds the rows' share of the loss to the running total. A point of the second sweep reads the cache and
the column sums back and adds the columns' share. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The point's second coordinate is zero, as the body tests it. -/
abbrev AtFirstBlock (i : grid0.Coords) : Prop := (Scalar.cmpi .ne (Scalar.extui (Scalar.cmpi .eq (BitVec.ofNat 32 (i 1).val) 0#32)) 0#32) = 1#1

/-- The point's second coordinate is positive, as the body tests it. -/
abbrev AtLaterBlock (i : grid0.Coords) : Prop := (Scalar.cmpi .ne (Scalar.extui (Scalar.cmpi .sgt (BitVec.ofNat 32 (i 1).val) 0#32)) 0#32) = 1#1

/-- What one block of rows adds to the loss: every element's term less the diagonal square's diagonal. -/
def rowShare (i : grid0.Coords) (h : k0_cond1 i = 1#1) (x : Vec F S512x4096 .f32) : F .f32 :=
  k0_pay1 (k0_pay8 x) (k0_pay12 x) (k0_pay13 x) (VecWindow.window x (k0_off2 i) ![512, 512] (k0_off2_inb i h))

/-- What one block of rows adds in the second sweep, from the running total `s`, the cache `eb` and the column sums `cs`. -/
def colShare (i : grid0.Coords) (h : k0_cond6 i = 1#1) (eb : Vec F S4096x4096 .bf16) (cs : Vec F S1x4096 .f32) (s : F .f32) : F .f32 :=
  k0_pay3 (k0_pay14 (VecWindow.window eb (k0_off3 i) S512x4096.size (k0_off3_inb i h)) cs)
    (k0_pay16 (VecWindow.window eb (k0_off4 i) S512x512.size (k0_off4_inb i h)) (VecWindow.window cs (k0_off5 i) S1x512.size (k0_off5_inb i h)))
    (k0_pay17 (VecWindow.window cs (k0_off5 i) S1x512.size (k0_off5_inb i h))) s

/-- A one-element array has one position. -/
theorem one_pos (y z : S1x1.Idx) : y = z :=
  funext fun a => Fin.ext (by
    have hy := (y a).isLt; have hz := (z a).isLt
    have hs : S1x1.size a = 1 := by fin_cases a <;> rfl
    omega)

/-- Loading the one element of a one-element array gives that element. -/
theorem load_one (v : View sig .tc .smem S1x1 .f32) (f : v.ty.Contents (Elt F)) (inb : ∀ a, (![0, 0] : Fin 2 → ℕ) a + (![1, 1] : Fin 2 → ℕ) a ≤ S1x1.size a)
    (z : (Rect.unit (s := S1x1) ![0, 0] ![1, 1] inb).toLoadRect.shape.Idx) (y : S1x1.Idx) :
    v.readAt (Elt F) (Rect.unit (s := S1x1) ![0, 0] ![1, 1] inb).toLoadRect f z = v.read (Elt F) f y :=
  congrArg (v.read (Elt F) f) (one_pos _ _)

set_option maxHeartbeats 1000000 in
/-- The first point of the first sweep: the total and the column sums start from nothing. -/
theorem runA (c : Dev nD) (i : grid0.Coords) (arg2 : Memref sig .tc .vmem S512x4096 .f32) (harg2 : arg2.IsWhole)
    (arg3 : Memref sig .tc .smem S1x1 .f32) (harg3 : arg3.IsWhole) (arg4 : Memref sig .tc .vmem S4096x4096 .bf16) (harg4 : arg4.IsWhole)
    (arg5 : Memref sig .tc .vmem S1x4096 .f32) (harg5 : arg5.IsWhole)
    (hc0 : k0_cond1 i = 1#1) (hc1 : AtFirstBlock i) (hc2 : ¬ AtLaterBlock i) (hc3 : k0_cond4 i = 1#1) (hc4 : ¬ k0_cond5 i = 1#1) (hc5 : ¬ k0_cond6 i = 1#1)
    (x0 : Vec F S512x4096 .f32) (xs0 : Vec F S4096x4096 .bf16) (E : Set ℕ) (K : PUnit → sProp 𝕄) :
    iprop(owns (c : Thread nD τ) arg2 fullShare x0 ∗ (∃ d, owns (c : Thread nD τ) arg3 fullShare d) ∗ owns (c : Thread nD τ) arg4 fullShare xs0 ∗ (∃ d, owns (c : Thread nD τ) arg5 fullShare d)
        ∗ (iprop(owns (c : Thread nD τ) arg2 fullShare x0 ∗ owns (c : Thread nD τ) arg3 fullShare (fun _ => rowShare i hc0 x0)
            ∗ owns (c : Thread nD τ) arg4 fullShare (VecWindow.put xs0 (k0_off1 i) S512x4096.size (k0_pay7 x0))
            ∗ owns (c : Thread nD τ) arg5 fullShare (k0_pay10 x0)) -∗ K ⟨⟩))
      ⊢ wp frame (wpE (defs₀ (F := F)) Variants.none c none) E (cc0__ccl_kernel i arg2 harg2 arg3 harg3 arg4 harg4 arg5 harg5) K := by
  simp only [cc0__ccl_kernel_eq_skeleton]; unfold cc0__ccl_kernel_skel
  simp only [k0_part1_eq_skeleton]
  unfold owns
  iintro ⟨⟨%f0, %hf0, H0⟩, ⟨%d1, %f1, -, H1⟩, ⟨%fs0, %hfs0, HS0⟩, ⟨%d2, %fs1, -, HS1⟩, Hk⟩
  obtain rfl := harg2.eq_unread hf0; obtain rfl := harg4.eq_unread hfs0
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro
    rw [View.read_writes_full]
    unfold runA.sl.r runA.sl.r_1 runA.sl.r_2 rowShare
    rw [View.readAt_full, View.readAt_unit (h := rfl) (inb' := k0_off2_inb i hc0), hf0]
    rfl
  isplitl [HS0]
  · iexists _; isplitr; swap; · iexact HS0
    ipureintro
    rw [View.read_writes_cons_put (h := rfl), View.writes_nil, hfs0, View.readAt_full, hf0]
  iexists _; isplitr; swap; · iexact HS1
  ipureintro
  rw [View.read_writes_full, View.readAt_full, hf0]

set_option maxHeartbeats 1000000 in
/-- A later point of the first sweep: the total and the column sums go on. -/
theorem runB (c : Dev nD) (i : grid0.Coords) (arg2 : Memref sig .tc .vmem S512x4096 .f32) (harg2 : arg2.IsWhole)
    (arg3 : Memref sig .tc .smem S1x1 .f32) (harg3 : arg3.IsWhole) (arg4 : Memref sig .tc .vmem S4096x4096 .bf16) (harg4 : arg4.IsWhole)
    (arg5 : Memref sig .tc .vmem S1x4096 .f32) (harg5 : arg5.IsWhole)
    (hc0 : k0_cond1 i = 1#1) (hc1 : ¬ AtFirstBlock i) (hc2 : AtLaterBlock i) (hc3 : ¬ k0_cond4 i = 1#1) (hc4 : k0_cond5 i = 1#1) (hc5 : ¬ k0_cond6 i = 1#1)
    (x0 : Vec F S512x4096 .f32) (xs0 : Vec F S4096x4096 .bf16) (o : Vec F S1x1 .f32) (xs1 : Vec F S1x4096 .f32) (E : Set ℕ) (K : PUnit → sProp 𝕄) :
    iprop(owns (c : Thread nD τ) arg2 fullShare x0 ∗ owns (c : Thread nD τ) arg3 fullShare o ∗ owns (c : Thread nD τ) arg4 fullShare xs0 ∗ owns (c : Thread nD τ) arg5 fullShare xs1
        ∗ (iprop(owns (c : Thread nD τ) arg2 fullShare x0 ∗ owns (c : Thread nD τ) arg3 fullShare (fun y => Scalar.addf (o y) (rowShare i hc0 x0))
            ∗ owns (c : Thread nD τ) arg4 fullShare (VecWindow.put xs0 (k0_off1 i) S512x4096.size (k0_pay7 x0))
            ∗ owns (c : Thread nD τ) arg5 fullShare (k0_pay11 x0 xs1)) -∗ K ⟨⟩))
      ⊢ wp frame (wpE (defs₀ (F := F)) Variants.none c none) E (cc0__ccl_kernel i arg2 harg2 arg3 harg3 arg4 harg4 arg5 harg5) K := by
  simp only [cc0__ccl_kernel_eq_skeleton]; unfold cc0__ccl_kernel_skel
  simp only [k0_part1_eq_skeleton]
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg4.eq_unread hfs0; obtain rfl := harg3.eq_unread hf1; obtain rfl := harg5.eq_unread hfs1
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro
    rw [View.read_writes_full]
    unfold runB.sl.r runB.sl.r_1 runB.sl.r_2 runB.sl.r_3 rowShare k0_pay2
    funext y
    rw [load_one (y := y), hf1, View.readAt_full, View.readAt_unit (h := rfl) (inb' := k0_off2_inb i hc0), hf0]
  isplitl [HS0]
  · iexists _; isplitr; swap; · iexact HS0
    ipureintro
    rw [View.read_writes_cons_put (h := rfl), View.writes_nil, hfs0, View.readAt_full, hf0]
  iexists _; isplitr; swap; · iexact HS1
  ipureintro
  rw [View.read_writes_full, View.readAt_full, View.readAt_full, hf0, hfs1]

set_option maxHeartbeats 1000000 in
/-- A point of the second sweep that is not the last: the total goes on, the scratch stays. -/
theorem runC (c : Dev nD) (i : grid0.Coords) (arg2 : Memref sig .tc .vmem S512x4096 .f32) (harg2 : arg2.IsWhole)
    (arg3 : Memref sig .tc .smem S1x1 .f32) (harg3 : arg3.IsWhole) (arg4 : Memref sig .tc .vmem S4096x4096 .bf16) (harg4 : arg4.IsWhole)
    (arg5 : Memref sig .tc .vmem S1x4096 .f32) (harg5 : arg5.IsWhole)
    (hc0 : ¬ k0_cond1 i = 1#1) (hc1 : k0_cond6 i = 1#1) (hc2 : ¬ k0_cond7 i = 1#1)
    (x0 : Vec F S512x4096 .f32) (xs0 : Vec F S4096x4096 .bf16) (o : Vec F S1x1 .f32) (xs1 : Vec F S1x4096 .f32) (E : Set ℕ) (K : PUnit → sProp 𝕄) :
    iprop(owns (c : Thread nD τ) arg2 fullShare x0 ∗ owns (c : Thread nD τ) arg3 fullShare o ∗ owns (c : Thread nD τ) arg4 fullShare xs0 ∗ owns (c : Thread nD τ) arg5 fullShare xs1
        ∗ (iprop(owns (c : Thread nD τ) arg2 fullShare x0 ∗ owns (c : Thread nD τ) arg3 fullShare (fun y => colShare i hc1 xs0 xs1 (o y))
            ∗ owns (c : Thread nD τ) arg4 fullShare (xs0)
            ∗ owns (c : Thread nD τ) arg5 fullShare (xs1)) -∗ K ⟨⟩))
      ⊢ wp frame (wpE (defs₀ (F := F)) Variants.none c none) E (cc0__ccl_kernel i arg2 harg2 arg3 harg3 arg4 harg4 arg5 harg5) K := by
  simp only [cc0__ccl_kernel_eq_skeleton]; unfold cc0__ccl_kernel_skel
  simp only [k0_part2_eq_skeleton]
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg4.eq_unread hfs0; obtain rfl := harg3.eq_unread hf1; obtain rfl := harg5.eq_unread hfs1
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro
    rw [View.read_writes_full]
    unfold runC.sl.r runC.sl.r_1 runC.sl.r_2 runC.sl.r_3 colShare
    funext y
    rw [load_one (y := y), hf1, View.readAt_full, View.readAt_unit (h := rfl) (inb' := k0_off3_inb i hc1), View.readAt_unit (h := rfl) (inb' := k0_off4_inb i hc1),
      View.readAt_unit (h := rfl) (inb' := k0_off5_inb i hc1), hfs0, hfs1]
  isplitl [HS0]
  · iexists _; isplitr; swap; · iexact HS0
    ipureintro; exact harg4.read_unread _
  iexists _; isplitr; swap; · iexact HS1
  ipureintro; exact harg5.read_unread _

set_option maxHeartbeats 1000000 in
/-- The last point: the total goes on and is scaled. -/
theorem runD (c : Dev nD) (i : grid0.Coords) (arg2 : Memref sig .tc .vmem S512x4096 .f32) (harg2 : arg2.IsWhole)
    (arg3 : Memref sig .tc .smem S1x1 .f32) (harg3 : arg3.IsWhole) (arg4 : Memref sig .tc .vmem S4096x4096 .bf16) (harg4 : arg4.IsWhole)
    (arg5 : Memref sig .tc .vmem S1x4096 .f32) (harg5 : arg5.IsWhole)
    (hc0 : ¬ k0_cond1 i = 1#1) (hc1 : k0_cond6 i = 1#1) (hc2 : k0_cond7 i = 1#1)
    (x0 : Vec F S512x4096 .f32) (xs0 : Vec F S4096x4096 .bf16) (o : Vec F S1x1 .f32) (xs1 : Vec F S1x4096 .f32) (E : Set ℕ) (K : PUnit → sProp 𝕄) :
    iprop(owns (c : Thread nD τ) arg2 fullShare x0 ∗ owns (c : Thread nD τ) arg3 fullShare o ∗ owns (c : Thread nD τ) arg4 fullShare xs0 ∗ owns (c : Thread nD τ) arg5 fullShare xs1
        ∗ (iprop(owns (c : Thread nD τ) arg2 fullShare x0 ∗ owns (c : Thread nD τ) arg3 fullShare (fun y => k0_pay4 (colShare i hc1 xs0 xs1 (o y)))
            ∗ owns (c : Thread nD τ) arg4 fullShare (xs0)
            ∗ owns (c : Thread nD τ) arg5 fullShare (xs1)) -∗ K ⟨⟩))
      ⊢ wp frame (wpE (defs₀ (F := F)) Variants.none c none) E (cc0__ccl_kernel i arg2 harg2 arg3 harg3 arg4 harg4 arg5 harg5) K := by
  simp only [cc0__ccl_kernel_eq_skeleton]; unfold cc0__ccl_kernel_skel
  simp only [k0_part2_eq_skeleton]
  unfold owns
  iintro ⟨⟨%f0, %hf0, H0⟩, ⟨%f1, %hf1, H1⟩, ⟨%fs0, %hfs0, HS0⟩, ⟨%fs1, %hfs1, HS1⟩, Hk⟩
  obtain rfl := harg2.eq_unread hf0; obtain rfl := harg4.eq_unread hfs0; obtain rfl := harg3.eq_unread hf1; obtain rfl := harg5.eq_unread hfs1
  sl_exec (disch := first | sl_exact hc0 | sl_exact hc1 | sl_exact hc2)
  sl_step
  iapply Hk
  isplitl [H0]
  · iexists _; isplitr; swap; · iexact H0
    ipureintro; exact harg2.read_unread _
  isplitl [H1]
  · iexists _; isplitr; swap; · iexact H1
    ipureintro
    rw [View.read_writes_full]
    unfold runD.sl.r_4 runD.sl.r runD.sl.r_1 runD.sl.r_2 runD.sl.r_3 colShare
    funext y
    rw [load_one (y := y), hf1, View.readAt_full, View.readAt_unit (h := rfl) (inb' := k0_off3_inb i hc1), View.readAt_unit (h := rfl) (inb' := k0_off4_inb i hc1),
      View.readAt_unit (h := rfl) (inb' := k0_off5_inb i hc1), hfs0, hfs1]
  isplitl [HS0]
  · iexists _; isplitr; swap; · iexact HS0
    ipureintro; exact harg4.read_unread _
  iexists _; isplitr; swap; · iexact HS1
  ipureintro; exact harg5.read_unread _

end Cert.KernelIdeal.Body

end
-- ==== Proof.KState.lean ====
module

public import proofs.«01_k».proof.Proof.KRuns
public import Idealize.ShloMosaic.Lib.Claim

/-! What the kernel holds after each grid point, and the launch.

The grid is walked in order: points 0 to 7 are the first sweep over the eight blocks of 512 rows, points 8 to 15 the second.
After each point we name the running total, the running column sums and the rows of the cache that are filled. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The conditions and the offsets, point by point -/

/-- The first eight points are the first sweep. -/
theorem cond1_iff : ∀ t : Fin cfg0.N, k0_cond1 (grid0.coords t) = 1#1 ↔ t.val < 8 :=
  (by decide +kernel : ∀ t : Fin grid0.N, k0_cond1 (grid0.coords t) = 1#1 ↔ t.val < 8)
/-- The first block of a sweep is at the points 0 and 8. -/
theorem first_iff : ∀ t : Fin cfg0.N, AtFirstBlock (grid0.coords t) ↔ t.val % 8 = 0 :=
  (by decide +kernel : ∀ t : Fin grid0.N, AtFirstBlock (grid0.coords t) ↔ t.val % 8 = 0)
/-- Every other point is at a later block. -/
theorem later_iff : ∀ t : Fin cfg0.N, AtLaterBlock (grid0.coords t) ↔ t.val % 8 ≠ 0 :=
  (by decide +kernel : ∀ t : Fin grid0.N, AtLaterBlock (grid0.coords t) ↔ t.val % 8 ≠ 0)
/-- The condition to start the running total, asked in the first sweep only. -/
theorem cond4_iff : ∀ t : Fin cfg0.N, k0_cond4 (grid0.coords t) = 1#1 ↔ t.val % 8 = 0 :=
  (by decide +kernel : ∀ t : Fin grid0.N, k0_cond4 (grid0.coords t) = 1#1 ↔ t.val % 8 = 0)
/-- The condition to add to the running total, asked in the first sweep only. -/
theorem cond5_iff : ∀ t : Fin cfg0.N, k0_cond5 (grid0.coords t) = 1#1 ↔ t.val % 8 ≠ 0 :=
  (by decide +kernel : ∀ t : Fin grid0.N, k0_cond5 (grid0.coords t) = 1#1 ↔ t.val % 8 ≠ 0)
/-- The last eight points are the second sweep. -/
theorem cond6_iff : ∀ t : Fin cfg0.N, k0_cond6 (grid0.coords t) = 1#1 ↔ 8 ≤ t.val :=
  (by decide +kernel : ∀ t : Fin grid0.N, k0_cond6 (grid0.coords t) = 1#1 ↔ 8 ≤ t.val)
/-- The condition to scale the running total, asked in the second sweep only. -/
theorem cond7_iff : ∀ t : Fin cfg0.N, k0_cond7 (grid0.coords t) = 1#1 ↔ t.val % 8 = 7 :=
  (by decide +kernel : ∀ t : Fin grid0.N, k0_cond7 (grid0.coords t) = 1#1 ↔ t.val % 8 = 7)
/-- Where the first sweep stores its rows in the cache. -/
theorem off1_eq : ∀ t : Fin cfg0.N, k0_off1 (grid0.coords t) = ![512 * (t.val % 8), 0] :=
  (by decide +kernel : ∀ t : Fin grid0.N, k0_off1 (grid0.coords t) = ![512 * (t.val % 8), 0])
/-- Where the first sweep reads the block's own columns. -/
theorem off2_eq : ∀ t : Fin cfg0.N, k0_off2 (grid0.coords t) = ![0, 512 * (t.val % 8)] :=
  (by decide +kernel : ∀ t : Fin grid0.N, k0_off2 (grid0.coords t) = ![0, 512 * (t.val % 8)])
/-- Where the second sweep reads its rows of the cache. -/
theorem off3_eq : ∀ t : Fin cfg0.N, k0_off3 (grid0.coords t) = ![512 * (t.val % 8), 0] :=
  (by decide +kernel : ∀ t : Fin grid0.N, k0_off3 (grid0.coords t) = ![512 * (t.val % 8), 0])
/-- Where the second sweep reads the block on the diagonal. -/
theorem off4_eq : ∀ t : Fin cfg0.N, k0_off4 (grid0.coords t) = ![512 * (t.val % 8), 512 * (t.val % 8)] :=
  (by decide +kernel : ∀ t : Fin grid0.N, k0_off4 (grid0.coords t) = ![512 * (t.val % 8), 512 * (t.val % 8)])
/-- Where the second sweep reads the column sums of the block's own columns. -/
theorem off5_eq : ∀ t : Fin cfg0.N, k0_off5 (grid0.coords t) = ![0, 512 * (t.val % 8)] :=
  (by decide +kernel : ∀ t : Fin grid0.N, k0_off5 (grid0.coords t) = ![0, 512 * (t.val % 8)])

/-- Every point stores the output, so it is live everywhere. -/
theorem live_out : ∀ i : grid0.Coords, cfg0.idle 1 i = false := fun i => by
  show (!(k0_cond1 i == 1#1 && k0_cond4 i == 1#1) && !(k0_cond1 i == 1#1 && k0_cond5 i == 1#1) && !(k0_cond6 i == 1#1) && !(k0_cond6 i == 1#1 && k0_cond7 i == 1#1)) = false
  unfold k0_cond1 k0_cond4 k0_cond5 k0_cond6 k0_cond7
  generalize (i 0) = a
  generalize (i 1) = b
  revert a b
  show ∀ (a : Fin 2) (b : Fin 8), _
  decide +kernel

/-- The grid has sixteen points. -/
theorem lt_N {n : ℕ} (h : n < 16) : n < cfg0.N := by have : cfg0.N = 16 := N_0; omega

variable (m : (ℓ : Loc nD τ sig) → Buf (Elt F) ℓ) (ρ : Dev nD → PrngReg)

/-- The 512 rows of the input a point reads. -/
def xblk (c : Dev nD) (t : Fin cfg0.N) : Vec F S512x4096 .f32 := iblk m c 0 t

/-- The whole row cache once every block of the first sweep is stored: row `512 q + p` is row `p` of block `q`'s payload. -/
def cache (c : Dev nD) : Vec F S4096x4096 .bf16 := fun y =>
  k0_pay7 (xblk m c ⟨(y (0 : Fin 2)).val / 512, lt_N (by have h : (y (0 : Fin 2)).val < 4096 := (y (0 : Fin 2)).isLt; omega)⟩)
    (fun a : Fin 2 => match a with
      | 0 => ⟨(y (0 : Fin 2)).val % 512, Nat.mod_lt _ (by decide)⟩
      | 1 => ⟨(y (1 : Fin 2)).val, (y (1 : Fin 2)).isLt⟩)

/-- The running total and the running column sums after point `n`. -/
def held (c : Dev nD) : (n : ℕ) → n < cfg0.N → Vec F S1x1 .f32 × Vec F S1x4096 .f32
  | 0, hn => (fun _ => rowShare (grid0.coords ⟨0, hn⟩) ((cond1_iff ⟨0, hn⟩).mpr (by show 0 < 8; omega)) (xblk m c ⟨0, hn⟩), k0_pay10 (xblk m c ⟨0, hn⟩))
  | n + 1, hn =>
    let p := held c n (Nat.lt_of_succ_lt hn)
    if h : n + 1 < 8 then
      (fun y => Scalar.addf (p.1 y) (rowShare (grid0.coords ⟨n + 1, hn⟩) ((cond1_iff ⟨n + 1, hn⟩).mpr h) (xblk m c ⟨n + 1, hn⟩)),
        k0_pay11 (xblk m c ⟨n + 1, hn⟩) p.2)
    else if h7 : (n + 1) % 8 = 7 then
      (fun y => k0_pay4 (colShare (grid0.coords ⟨n + 1, hn⟩) ((cond6_iff ⟨n + 1, hn⟩).mpr (by show 8 ≤ n + 1; omega)) (cache m c) p.2 (p.1 y)), p.2)
    else
      (fun y => colShare (grid0.coords ⟨n + 1, hn⟩) ((cond6_iff ⟨n + 1, hn⟩).mpr (by show 8 ≤ n + 1; omega)) (cache m c) p.2 (p.1 y), p.2)

/-- What is held after the first point. -/
theorem held_A (c : Dev nD) (t : Fin cfg0.N) (h : t.val = 0) (hc : k0_cond1 (grid0.coords t) = 1#1) :
    held m c t.val t.isLt = (fun _ => rowShare (grid0.coords t) hc (xblk m c t), k0_pay10 (xblk m c t)) := by
  obtain ⟨n, hn⟩ := t
  cases n with
  | zero => rfl
  | succ n => exact absurd h (by simp)

/-- What is held after a later point of the first sweep. -/
theorem held_B (c : Dev nD) (t : Fin cfg0.N) (h0 : t.val ≠ 0) (h : t.val < 8) (hc : k0_cond1 (grid0.coords t) = 1#1) :
    held m c t.val t.isLt
      = (fun y => Scalar.addf ((held m c (t.val - 1) (Nat.lt_of_le_of_lt (Nat.sub_le _ _) t.isLt)).1 y) (rowShare (grid0.coords t) hc (xblk m c t)),
        k0_pay11 (xblk m c t) (held m c (t.val - 1) (Nat.lt_of_le_of_lt (Nat.sub_le _ _) t.isLt)).2) := by
  obtain ⟨n, hn⟩ := t
  cases n with
  | zero => exact absurd rfl h0
  | succ n => exact dif_pos h

/-- What is held after a point of the second sweep but the last. -/
theorem held_C (c : Dev nD) (t : Fin cfg0.N) (h : 8 ≤ t.val) (h7 : ¬ t.val % 8 = 7) (hc : k0_cond6 (grid0.coords t) = 1#1) :
    held m c t.val t.isLt
      = (fun y => colShare (grid0.coords t) hc (cache m c) (held m c (t.val - 1) (Nat.lt_of_le_of_lt (Nat.sub_le _ _) t.isLt)).2
          ((held m c (t.val - 1) (Nat.lt_of_le_of_lt (Nat.sub_le _ _) t.isLt)).1 y),
        (held m c (t.val - 1) (Nat.lt_of_le_of_lt (Nat.sub_le _ _) t.isLt)).2) := by
  obtain ⟨n, hn⟩ := t
  cases n with
  | zero => exact absurd h (by simp)
  | succ n => exact (dif_neg (by simp at h ⊢; omega)).trans (dif_neg h7)

/-- What is held after the last point. -/
theorem held_D (c : Dev nD) (t : Fin cfg0.N) (h : 8 ≤ t.val) (h7 : t.val % 8 = 7) (hc : k0_cond6 (grid0.coords t) = 1#1) :
    held m c t.val t.isLt
      = (fun y => k0_pay4 (colShare (grid0.coords t) hc (cache m c) (held m c (t.val - 1) (Nat.lt_of_le_of_lt (Nat.sub_le _ _) t.isLt)).2
          ((held m c (t.val - 1) (Nat.lt_of_le_of_lt (Nat.sub_le _ _) t.isLt)).1 y)),
        (held m c (t.val - 1) (Nat.lt_of_le_of_lt (Nat.sub_le _ _) t.isLt)).2) := by
  obtain ⟨n, hn⟩ := t
  cases n with
  | zero => exact absurd h (by simp)
  | succ n => exact (dif_neg (by simp at h ⊢; omega)).trans (dif_pos h7)

/-! ## The cache's filled rows -/

/-- The cache's first `k` rows hold the finished cache's. -/
def Filled (c : Dev nD) (k : ℕ) (d : Vec F S4096x4096 .bf16) : Prop :=
  ∀ y : S4096x4096.Idx, (y (0 : Fin 2)).val < k → d y = cache m c y

/-- Storing block `t` fills its 512 rows. -/
theorem Filled.put {c : Dev nD} {t : Fin cfg0.N} (ht : t.val < 8) {d : Vec F S4096x4096 .bf16} (h : Filled m c (512 * t.val) d) :
    Filled m c (512 * (t.val + 1)) (VecWindow.put d (k0_off1 (grid0.coords t)) S512x4096.size (k0_pay7 (xblk m c t))) := by
  intro y hy
  rw [off1_eq, Nat.mod_eq_of_lt ht]
  unfold VecWindow.put
  have hy1 : (y (1 : Fin 2)).val < 4096 := (y (1 : Fin 2)).isLt
  by_cases hlo : (y (0 : Fin 2)).val < 512 * t.val
  · rw [dif_neg (fun hall => by have := (hall (0 : Fin 2)).1; simp at this; omega)]
    exact h y hlo
  · have hall : ∀ a : Fin 2, (![512 * t.val, 0] : Fin 2 → ℕ) a ≤ (y a).val ∧ (y a).val < (![512 * t.val, 0] : Fin 2 → ℕ) a + S512x4096.size a := by
      refine Fin.forall_fin_two.mpr ⟨⟨?_, ?_⟩, ⟨?_, ?_⟩⟩
      · show 512 * t.val ≤ _; omega
      · show _ < 512 * t.val + 512; omega
      · show 0 ≤ _; omega
      · show _ < 0 + 4096; omega
    rw [dif_pos hall]
    unfold cache
    have et : (⟨(y (0 : Fin 2)).val / 512, lt_N (by have h : (y (0 : Fin 2)).val < 4096 := (y (0 : Fin 2)).isLt; omega)⟩ : Fin cfg0.N) = t :=
      Fin.ext (by show (y (0 : Fin 2)).val / 512 = t.val; omega)
    rw [et]
    refine congrArg (k0_pay7 (xblk m c t)) (funext (Fin.forall_fin_two.mpr ⟨Fin.ext ?_, Fin.ext ?_⟩))
    · show (y (0 : Fin 2)).val - 512 * t.val = (y (0 : Fin 2)).val % 512; omega
    · show (y (1 : Fin 2)).val - 0 = (y (1 : Fin 2)).val; omega

/-- A cache with all rows filled is the finished cache. -/
theorem Filled.all {c : Dev nD} {k : ℕ} (hk : 4096 ≤ k) {d : Vec F S4096x4096 .bf16} (h : Filled m c k d) : d = cache m c :=
  funext fun y => h y (by have : (y (0 : Fin 2)).val < 4096 := (y (0 : Fin 2)).isLt; omega)

/-- A cache filled up to a row is filled up to each earlier one. -/
theorem Filled.mono {c : Dev nD} {k k' : ℕ} (hk : k' ≤ k) {d : Vec F S4096x4096 .bf16} (h : Filled m c k d) : Filled m c k' d :=
  fun y hy => h y (by omega)

/-! ## The invariant and the proof data -/

/-- The cache and the column sums, as the kernel's own memory. -/
abbrev cacheM : Memref sig .tc .vmem S4096x4096 .bf16 := Memref.whole cc0_scratch0
/-- The column sums' array. -/
abbrev sumsM : Memref sig .tc .vmem S1x4096 .f32 := Memref.whole cc0_scratch1

/-- What the scratch arrays hold at the start: anything. -/
theorem start_eq (c : Dev nD) :
    (Pipeline.ΦA spec0 c : sProp 𝕄)
      = iprop(iprop((∃ d, owns (c : Thread nD τ) cacheM fullShare d) ∗ (∃ d, owns (c : Thread nD τ) sumsM fullShare d)) ∗ (∃ r, prngReg c r)) := by
  unfold Pipeline.ΦA; rw [scopedRest0_eq]; simp only [cacheM, sumsM, owns_whole]; try rfl

/-- Before point 0 anything; after point `n` the cache's first `512 (n + 1)` rows (all of them from point 7 on) and the column sums are known. -/
def Inv (c : Dev nD) : (n : ℕ) → n ≤ cfg0.N → sProp 𝕄
  | 0, _ => Pipeline.ΦA spec0 c
  | n + 1, hn => iprop(iprop((∃ d, ⌜Filled m c (512 * (n + 1)) d⌝ ∗ owns (c : Thread nD τ) cacheM fullShare d)
      ∗ owns (c : Thread nD τ) sumsM fullShare (held m c n hn).2) ∗ (∃ r, prngReg c r))

/-- Before the first point nothing is known of the scratch arrays. -/
theorem Inv_zero (c : Dev nD) (n : ℕ) (h : n ≤ cfg0.N) (hz : n = 0) : Inv m c n h = Pipeline.ΦA spec0 c := by
  subst hz; rfl

/-- What is known after a point. -/
theorem Inv_succ (c : Dev nD) (n : ℕ) (hn : n < cfg0.N) :
    Inv m c (n + 1) hn = iprop(iprop((∃ d, ⌜Filled m c (512 * (n + 1)) d⌝ ∗ owns (c : Thread nD τ) cacheM fullShare d)
      ∗ owns (c : Thread nD τ) sumsM fullShare (held m c n hn).2) ∗ (∃ r, prngReg c r)) := rfl

/-- What is known before a point that is not the first. -/
theorem Inv_pos (c : Dev nD) (n : ℕ) (h : n ≤ cfg0.N) (hz : n ≠ 0) :
    Inv m c n h = iprop(iprop((∃ d, ⌜Filled m c (512 * n) d⌝ ∗ owns (c : Thread nD τ) cacheM fullShare d)
      ∗ owns (c : Thread nD τ) sumsM fullShare (held m c (n - 1) (by omega)).2) ∗ (∃ r, prngReg c r)) := by
  cases n with
  | zero => exact absurd rfl hz
  | succ n => rfl

/-- The launch's data on core `c`: the arrays as found, the input blocks, the running total, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (held m c t.val t.isLt).1
  Φ t := Inv m c t.val (Nat.le_of_lt_succ t.isLt)
  q _ := fullShare
  owed _ := 0

/-- The arrays that the windows are over. -/
theorem A_eq (c : Dev nD) (w : Fin cfg0.W) : (dats m 0 c).A w = V m c (Pipeline.arrRef spec0 w) := by
  dsimp only [dats]

/-- What is known before a point, by its number. -/
theorem Phi_castSucc (c : Dev nD) (t : Fin cfg0.N) :
    (dats m 0 c).Φ t.castSucc = Inv m c t.val (Nat.le_of_lt t.isLt) := by
  dsimp only [dats]; exact Pipeline.Dat.Φ_castSucc (Inv m c) t

/-- The input window is left as it was. -/
theorem after_in (c : Dev nD) (t : Fin cfg0.N) : (dats m 0 c).after 0 t = iblk m c 0 t := by dsimp only [dats]
/-- The output window holds the running total. -/
theorem after_out (c : Dev nD) (t : Fin cfg0.N) : (dats m 0 c).after 1 t = (held m c t.val t.isLt).1 := by dsimp only [dats]

/-- The input window holds the point's rows of scores. -/
theorem before_in (c : Dev nD) (t : Fin cfg0.N) (d) : (dats m 0 c).before 0 t d = xblk m c t :=
  before0_0_of m (dats m 0 c) (A_eq m c 0) (after_in m c) t d

/-- After the first point the body finds the running total it left. -/
theorem before_out (c : Dev nD) (t : Fin cfg0.N) (ht : t.val ≠ 0) (d) :
    (dats m 0 c).before 1 t d = (held m c (t.val - 1) (Nat.lt_of_le_of_lt (Nat.sub_le _ _) t.isLt)).1 := by
  have hN : t.val < 16 := lt_of_lt_of_eq t.isLt (show cfg0.N = 16 from N_0)
  rw [Dat.before_out_kept (dats m 0 c) 1 rfl t ht
    (by
      rw [Bool.eq_false_iff]; intro h
      have := (flush0_1 _).mp h
      simp only at this; omega)
    live_out (fun _ _ => rfl) d]
  exact after_out m c _

/-! ## The body at any point -/

/-- The input window's array at a point. -/
abbrev inM (t : Fin cfg0.N) : Memref sig .tc .vmem S512x4096 .f32 := win0_0.stage (cfg0.slots t 0)
/-- The output window's array at a point. -/
abbrev outM (t : Fin cfg0.N) : Memref sig .tc .smem S1x1 .f32 := win0_1.stage (cfg0.slots t 1)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

/-- The body leaves the input window as stated. -/
theorem leaves_in (c : Dev nD) (t : Fin cfg0.N) :
    (dats m 0 c).leavesExact 0 t = owns (c : Thread nD τ) (inM t) fullShare (xblk m c t) := by
  unfold Dat.leavesExact; rw [show cfg0.idle 0 (grid0.coords t) = false from rfl, after_in]; rfl

/-- The body leaves the output window as stated. -/
theorem leaves_out (c : Dev nD) (t : Fin cfg0.N) :
    (dats m 0 c).leavesExact 1 t = owns (c : Thread nD τ) (outM t) fullShare (held m c t.val t.isLt).1 := by
  unfold Dat.leavesExact; rw [live_out, after_out]

set_option maxHeartbeats 3200000 in
/-- The body, at any point, takes what the point before left to what this point leaves. -/
theorem body_ok (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves_in, leaves_out, show (dats m 0 c).owesAt () t.succ = (dats m 0 c).owesAt () t.castSucc from rfl,
    show (dats m 0 c).Φ t.succ = Inv m c (t.val + 1) t.isLt from rfl, Inv_succ, Phi_castSucc m c t]
  simp only [before_in]
  have hN : t.val < 16 := lt_of_lt_of_eq t.isLt (show cfg0.N = 16 from N_0)
  by_cases hz : t.val = 0
  · rw [Inv_zero m c _ _ hz, start_eq]
    have hc := (cond1_iff t).mpr (by omega)
    rw [held_A m c t hz hc]
    iintro ⟨⟨⟨⟨%e, HC⟩, HS⟩, Hg⟩, Ho, ⟨%d0, H0⟩, ⟨%d1, H1⟩⟩
    iapply (runA c (grid0.coords t) _ _ _ _ _ _ _ _ hc ((first_iff t).mpr (by omega)) (fun h => (later_iff t).mp h (by omega))
      ((cond4_iff t).mpr (by omega)) (fun h => (cond5_iff t).mp h (by omega)) (fun h => by have := (cond6_iff t).mp h; omega) (xblk m c t) e Set.univ _)
    isplitl [H0]; · iexact H0
    isplitl [H1]; · iexists _; iexact H1
    isplitl [HC]; · iexact HC
    isplitl [HS]; · iexact HS
    iintro ⟨H0, H1, HC, HS⟩
    isplitl [HC HS Hg]
    · isplitl [HC HS]
      · isplitl [HC]
        · iexists _; isplitr; swap; · iexact HC
          ipureintro; exact Filled.put m (by omega) (fun y hy => by omega)
        iexact HS
      iexact Hg
    isplitl [Ho]; · iexact Ho
    isplitl [H0]; · iexact H0
    iexact H1
  rw [Inv_pos m c _ _ hz]
  simp only [before_out m c t hz]
  by_cases h8 : t.val < 8
  · have hc := (cond1_iff t).mpr h8
    rw [held_B m c t hz h8 hc]
    iintro ⟨⟨⟨⟨%e, %he, HC⟩, HS⟩, Hg⟩, Ho, ⟨%d0, H0⟩, ⟨%d1, H1⟩⟩
    iapply (runB c (grid0.coords t) _ _ _ _ _ _ _ _ hc (fun h => by have := (first_iff t).mp h; omega) ((later_iff t).mpr (by omega))
      (fun h => by have := (cond4_iff t).mp h; omega) ((cond5_iff t).mpr (by omega)) (fun h => by have := (cond6_iff t).mp h; omega) (xblk m c t) e _ _ Set.univ _)
    isplitl [H0]; · iexact H0
    isplitl [H1]; · iexact H1
    isplitl [HC]; · iexact HC
    isplitl [HS]; · iexact HS
    iintro ⟨H0, H1, HC, HS⟩
    isplitl [HC HS Hg]
    · isplitl [HC HS]
      · isplitl [HC]
        · iexists _; isplitr; swap; · iexact HC
          ipureintro; exact Filled.put m h8 he
        iexact HS
      iexact Hg
    isplitl [Ho]; · iexact Ho
    isplitl [H0]; · iexact H0
    iexact H1
  · have hc := (cond6_iff t).mpr (by omega)
    by_cases h7 : t.val % 8 = 7
    · rw [held_D m c t (by omega) h7 hc]
      iintro ⟨⟨⟨⟨%e, %he, HC⟩, HS⟩, Hg⟩, Ho, ⟨%d0, H0⟩, ⟨%d1, H1⟩⟩
      obtain rfl := Filled.all m (by omega) he
      iapply (runD c (grid0.coords t) _ _ _ _ _ _ _ _ (fun h => h8 ((cond1_iff t).mp h)) hc ((cond7_iff t).mpr h7) (xblk m c t) _ _ _ Set.univ _)
      isplitl [H0]; · iexact H0
      isplitl [H1]; · iexact H1
      isplitl [HC]; · iexact HC
      isplitl [HS]; · iexact HS
      iintro ⟨H0, H1, HC, HS⟩
      isplitl [HC HS Hg]
      · isplitl [HC HS]
        · isplitl [HC]
          · iexists _; isplitr; swap; · iexact HC
            ipureintro; exact fun y _ => rfl
          iexact HS
        iexact Hg
      isplitl [Ho]; · iexact Ho
      isplitl [H0]; · iexact H0
      iexact H1
    · rw [held_C m c t (by omega) h7 hc]
      iintro ⟨⟨⟨⟨%e, %he, HC⟩, HS⟩, Hg⟩, Ho, ⟨%d0, H0⟩, ⟨%d1, H1⟩⟩
      obtain rfl := Filled.all m (by omega) he
      iapply (runC c (grid0.coords t) _ _ _ _ _ _ _ _ (fun h => h8 ((cond1_iff t).mp h)) hc (fun h => h7 ((cond7_iff t).mp h)) (xblk m c t) _ _ _ Set.univ _)
      isplitl [H0]; · iexact H0
      isplitl [H1]; · iexact H1
      isplitl [HC]; · iexact HC
      isplitl [HS]; · iexact HS
      iintro ⟨H0, H1, HC, HS⟩
      isplitl [HC HS Hg]
      · isplitl [HC HS]
        · isplitl [HC]
          · iexists _; isplitr; swap; · iexact HC
            ipureintro; exact fun y _ => rfl
          iexact HS
        iexact Hg
      isplitl [Ho]; · iexact Ho
      isplitl [H0]; · iexact H0
      iexact H1

/-- The region's body at a point is the kernel's body there. -/
theorem body_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, body_row]
  exact triple_restated (body_ok m c t) rfl .rfl fun _ => .rfl

/-- The launch's start gives what is known before the first point. -/
theorem enter (c : Dev nD) : Pipeline.ΦA spec0 c ⊢ (dats m 0 c).Φ 0 := by
  rw [show (dats m 0 c).Φ 0 = Inv m c 0 (Nat.zero_le _) from rfl, Inv_zero m c 0 _ rfl]

/-- What is known after the last point gives the launch's end. -/
theorem leave (c : Dev nD) : (dats m 0 c).Φ (Fin.last cfg0.N) ⊢ Pipeline.ΦA spec0 c := by
  have hN : cfg0.N = 16 := N_0
  rw [show (dats m 0 c).Φ (Fin.last cfg0.N) = Inv m c cfg0.N (Nat.le_refl _) from rfl, Inv_pos m c _ _ (by omega), start_eq]
  iintro ⟨⟨⟨%e, %he, HC⟩, HS⟩, Hg⟩
  isplitl [HC HS]
  · isplitl [HC]
    · iexists _; iexact HC
    iexists _; iexact HS
  iexact Hg

/-! ## The launch -/

set_option backward.isDefEq.respectTransparency.types false in
set_option maxHeartbeats 800000 in
/-- Every execution of the kernel's program ends, with the arrays the data name and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m)

/-- The argument array ends as it began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) ((θ_run defs _ _).mono (fun _ h => h.1) (launch m ρ))

/-- The program ends, its argument unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (launch m ρ))

end Cert.KernelIdeal.Body

end
-- ==== Proof.BFrame.lean ====
module

public import proofs.«01_k».proof.Proof.KState
public import proofs.«01_k».proof.Proof.Gen.Kernel

/-! The kernel as taken runs as its named form does: it is that form with each named constant read as its own word. -/

@[expose] public section

set_option maxRecDepth 16384

noncomputable section

namespace Cert.Kernel.Body

open Idealize.ShloMosaic Idealize.ShloMosaic.TcCoe Idealize.SL.Sem
open Cert.Kernel Cert.Kernel.Gen

variable {F : FTy → Type} [FloatOps F]

/-- Each named constant read as its own word. -/
@[reducible] def asWords : Named F := ⟨fun _ _ _ b => FloatOps.ofBits _ b⟩

/-- The two body tables are the same. -/
theorem bodies_same : (letI : Named F := asWords; Cert.KernelIdeal.defs₀ (F := F)) = defs₀ (F := F) := by
  unfold defs₀ Cert.KernelIdeal.defs₀
  refine congrArg Defs.onTc (funext fun l => ?_)
  obtain rfl : l = (0 : Fin 1) := Subsingleton.elim (α := Fin 1) _ _
  funext ⟨t, s⟩
  rfl

/-- So are the two tables with the launch. -/
theorem tables_same : (letI : Named F := asWords; Cert.KernelIdeal.defs (F := F)) = defs (F := F) :=
  congrArg (Pipeline.defs (pcfgs (F := F))) bodies_same

/-- Every execution ends with the argument unchanged and every counter at zero. -/
theorem quiescent (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  tables_same (F := F) ▸ (letI : Named F := asWords; Cert.KernelIdeal.Body.quiescent (F := F) m ρ)

end Cert.Kernel.Body

end
-- ==== Proof.KOut.lean ====
module

public import proofs.«01_k».proof.Proof.KState
public import Idealize.ShloMosaic.Lib.Pipeline.Value
public import Idealize.ShloMosaic.Lib.StableHlo.Run

/-! The kernel's result: the array it writes ends at the running total after the last point. -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal.Gen

variable {F : FTy → Type} [FloatOps F] [Named F]
variable (m : (ℓ : Loc nD τ sig) → Buf (Elt F) ℓ) (ρ : Dev nD → PrngReg)

/-- The one-element block the last point leaves. -/
abbrev lastBlock (c : Dev nD) : Buf (Elt F) ((c : Thread nD τ).loc main_v0) := (held m c 15 (lt_N (by decide))).1

/-- The one index of a one-by-one block. -/
def origin : S1x1.Idx := fun a : Fin 2 => match a with
  | 0 => ⟨0, by decide⟩
  | 1 => ⟨0, by decide⟩

/-- The kernel's result: the one value of the last block. -/
def total (c : Dev nD) : F .f32 := (held m c 15 (lt_N (by decide))).1 origin

/-- The only write-back of the result array is the last point's, of the whole array. -/
theorem flushed_last (c : Dev nD) (t : Fin cfg0.N) (hf : (cfg0.win 1).flush t = true) :
    (dats m 0 c).flushed 1 t = ((cfg0.win 1).blk t).view.read (Elt F) (lastBlock m c) := by
  have hN : cfg0.N = 16 := N_0
  have h3 : t.val = 15 := by have := (flush0_1 t).mp hf; have := t.isLt; omega
  obtain rfl : t = t0_15 := Fin.ext h3
  show (cfg0.win 1).cut (grid0.coords t0_15) ((dats m 0 c).after 1 t0_15) = _
  rw [after_out]
  have hz' : (fun a => win0_1.index t0_15 a * main_v0.ty.shape.size a) = fun _ => 0 := funext fun a => by fin_cases a <;> decide
  exact (Memref.read_access_unit_zero (Elt F) main_v0 hz' (fun a => by rw [congrFun hz' a]; simp) (lastBlock m c)).symm

/-- The result array ends at the last point's block. -/
theorem final_array (c : Dev nD) : (dats m 0 c).arrAt 1 cfg0.N = lastBlock m c :=
  (dats m 0 c).arrAt_eq_of_cover 1 (lastBlock m c) (flushed_last m c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 1 from by decide +kernel]; omega⟩

/-- The kernel's scalar result, after the reshape that follows the launch. -/
theorem tail_value (c : Dev nD) :
    Pipeline.afterTail₀ cfgs (dats m) 0 (V0 m) [hostOps1] c main_v1 = fun _ => total m c := by
  unfold Pipeline.afterTail₀
  have hw : Pipeline.withArrays (cfgs 0).spec c (V0 m c) (fun w => (dats m 0 c).arrAt w (cfgs 0).N) (Proc.devRef .tc main_v0) = lastBlock m c :=
    (Pipeline.withArrays_arr (cfgs 0).spec (by decide) c (V0 m c) (fun w => (dats m 0 c).arrAt w (cfgs 0).N) 1).trans (final_array m c)
  simp only [List.flatten_cons, List.flatten_nil, List.append_nil, hostOps1]
  after_results
  rw [hw]
  funext y
  show lastBlock m c _ = lastBlock m c origin
  exact congrArg (lastBlock m c) (one_pos _ _)

/-- Every execution ends with the kernel's result at the running total and the argument unchanged. -/
theorem run : θ_run defs (onTc (τ := τ) (main (F := F))) ⟨m, fun _ => 0, ρ⟩ (fun r => ∀ c : Dev nD,
      r.2.mem ((c.tc : Thread nD τ).loc main_v1) = (fun _ => total m c)
      ∧ r.2.mem ((c.tc : Thread nD τ).loc main_arg0) = m ((c.tc : Thread nD τ).loc main_arg0)) :=
  (θ_run defs _ _).mono (fun r h c => ⟨((h.1.1 c).2 main_v1 (Pipeline.mem_restRefs_of main_v1 rfl (by decide))).trans (tail_value m c), h.2 c⟩)
    (θ_run_and (launch m ρ) (unchanged m ρ))

end Cert.KernelIdeal.Body

end
-- ==== Proof.RLine.lean ====
module

public import proofs.«01_k».proof.ReferenceIdeal
public import proofs.«01_k».proof.Proof.Gen.ReferenceIdeal
public import Idealize.ShloMosaic.Lib.StableHlo.Run

/-! Lines of host operations that leave given arrays alone.

The reference draws its random numbers by a long line of integer operations whose values the proof never needs. This module
says of a program only that it is some line of host operations none of which writes a protected array. -/

@[expose] public section

noncomputable section

namespace Cert.ReferenceIdeal.Line

open Idealize.ShloMosaic Idealize.ShloMosaic.TcCoe Idealize.SL.Sem Idealize.ShloMosaic.StableHlo
open Cert.ReferenceIdeal

variable {F : FTy → Type} [FloatOps F]

/-- The reference's programs. -/
abbrev HostProg (F : FTy → Type) [FloatOps F] := Prog (TpuEff nD τ sig (Elt F) (Pipeline.Sig Λ₀ (Fin 0) fun p => (pcfgs (F := F) p).Adm) .tc) PUnit

/-- One operation: it reads and writes the core's own arrays, determines what it writes, and writes one array outside `W`. -/
def Mild (W : List (Ref sig .tc)) (op : HloOp τ sig (Elt F)) : Prop :=
  op.bufs ⊆ tcRefs τ sig ∧ op.fresh = ∅ ∧ ∃ y : Ref sig .tc, y ∉ W ∧ op.writes = {Proc.devRef .tc y}

section
variable {W : List (Ref sig .tc)} {x a b c y : Ref sig .tc}

/-- A constant is mild. -/
theorem mild_nullary (h : y ∉ W) (v : y.ty.Contents (Elt F)) (hy) : Mild W (nullary (τ := τ) y v hy) :=
  ⟨nullary_bufs_sub .., rfl, y, h, rfl⟩
/-- An operation of one array is mild. -/
theorem mild_unary (h : y ∉ W) (f : x.ty.Contents (Elt F) → y.ty.Contents (Elt F)) (hx hy) : Mild W (unary (τ := τ) x y f hx hy) :=
  ⟨unary_bufs_sub .., rfl, y, h, rfl⟩
/-- An operation of two arrays is mild. -/
theorem mild_binary (h : y ∉ W) (f : a.ty.Contents (Elt F) → b.ty.Contents (Elt F) → y.ty.Contents (Elt F)) (ha hb hy) :
    Mild W (binary (τ := τ) a b y f ha hb hy) :=
  ⟨binary_bufs_sub .., rfl, y, h, rfl⟩
/-- A reshape is mild. -/
theorem mild_reshape (h : y ∉ W) (he hn hx hy) : Mild W (reshape (τ := τ) (Val := Elt F) x y he hn hx hy) :=
  ⟨reshape_bufs_sub .., rfl, y, h, rfl⟩
end

/-- A program that is some line of mild operations. -/
def Quiet (W : List (Ref sig .tc)) (p : HostProg F) : Prop :=
  ∃ ops : List (HloOp τ sig (Elt F)), p = seq ops ∧ ∀ op ∈ ops, Mild W op

section
variable {W : List (Ref sig .tc)} {p q : HostProg F} {op : HloOp τ sig (Elt F)}

/-- The empty program is quiet. -/
theorem Quiet.done : Quiet W (pure ⟨⟩ : HostProg F) := ⟨[], rfl, by simp⟩

/-- A mild operation before a quiet program. -/
theorem Quiet.step (h : Mild W op) (hp : Quiet W p) : Quiet W ((hlo rfl op fun _ => .ret (⟨⟩ : PUnit)) >>= fun _ => p) := by
  obtain ⟨ops, rfl, ho⟩ := hp
  exact ⟨op :: ops, rfl, by simpa using ⟨h, ho⟩⟩

/-- A single mild operation. -/
theorem Quiet.last (h : Mild W op) : Quiet W (hlo rfl op fun _ => .ret (⟨⟩ : PUnit) : HostProg F) :=
  ⟨[op], rfl, by simpa using h⟩

/-- A quiet program before a quiet program. -/
theorem Quiet.both (hp : Quiet W p) (hq : Quiet W q) : Quiet W (p >>= fun _ => q) := by
  obtain ⟨o1, rfl, h1⟩ := hp
  obtain ⟨o2, rfl, h2⟩ := hq
  refine ⟨o1 ++ o2, (seq_append o1 o2).symm, fun op h => ?_⟩
  rcases List.mem_append.mp h with h | h
  · exact h1 op h
  · exact h2 op h
end

/-- A program that is the operations `A`, then some line of mild operations, then the operations `B`. -/
def Around (W : List (Ref sig .tc)) (A B : List (HloOp τ sig (Elt F))) (p : HostProg F) : Prop :=
  ∃ mid : List (HloOp τ sig (Elt F)), p = seq (A ++ (mid ++ B)) ∧ ∀ op ∈ mid, Mild W op

section
variable {W : List (Ref sig .tc)} {p q : HostProg F} {op : HloOp τ sig (Elt F)} {A B C : List (HloOp τ sig (Elt F))}

/-- A program that is the last operations. -/
theorem Around.tail (h : p = seq B) : Around W [] B p := ⟨[], h, by simp⟩

/-- One of the first operations before the rest. -/
theorem Around.head (h : Around W A B p) : Around W (op :: A) B ((hlo rfl op fun _ => .ret (⟨⟩ : PUnit)) >>= fun _ => p) := by
  obtain ⟨mid, rfl, hm⟩ := h
  exact ⟨mid, rfl, hm⟩

/-- A mild operation before the last operations. -/
theorem Around.skip (ho : Mild W op) (h : Around W [] B p) : Around W [] B ((hlo rfl op fun _ => .ret (⟨⟩ : PUnit)) >>= fun _ => p) := by
  obtain ⟨mid, rfl, hm⟩ := h
  exact ⟨op :: mid, rfl, by simpa using ⟨ho, hm⟩⟩

/-- A quiet program before the last operations. -/
theorem Around.call (hq : Quiet W q) (h : Around W [] B p) : Around W [] B (q >>= fun _ => p) := by
  obtain ⟨o1, rfl, h1⟩ := hq
  obtain ⟨mid, rfl, hm⟩ := h
  refine ⟨o1 ++ mid, ?_, fun op ho => ?_⟩
  · rw [List.nil_append, List.nil_append, List.append_assoc]; exact (seq_append _ _).symm
  · rcases List.mem_append.mp ho with ho | ho
    · exact h1 op ho
    · exact hm op ho

end

end Cert.ReferenceIdeal.Line

end
-- ==== Proof.RHash.lean ====
module

public import proofs.«01_k».proof.Proof.RLine

/-! The random bits: the reference's hash is a line of operations that leaves the protected arrays alone. -/

@[expose] public section

set_option maxRecDepth 16384

noncomputable section

namespace Cert.ReferenceIdeal.Line

open Idealize.ShloMosaic Idealize.ShloMosaic.TcCoe Idealize.SL.Sem Idealize.ShloMosaic.StableHlo
open Cert.ReferenceIdeal Cert.ReferenceIdeal.Gen

variable {F : FTy → Type} [FloatOps F]

/-- The arrays read after the random bits are drawn: the scores, the two normalised matrices, and the bounds of the draw. -/
abbrev kept : List (Ref sig .tc) := [main_arg0, main_v8, main_v15, main_call1_v2, main_call1_v3]

set_option maxHeartbeats 4000000 in
/-- Statements of the hash, part 0: none writes a kept array. -/
theorem quiet_small0 : Quiet kept (fn_threefry2x32.body_part0 (F := F) main_call0.v6 main_call0.v8 main_call0.v9 main_call0.v10 main_call0.call0) := by
  unfold fn_threefry2x32.body_part0
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

set_option maxHeartbeats 4000000 in
/-- Statements of the hash, part 1: none writes a kept array. -/
theorem quiet_small1 : Quiet kept (fn_threefry2x32.body_part1 (F := F) main_call0.v6 main_call0.v8 main_call0.v9 main_call0.v10 main_call0.call0) := by
  unfold fn_threefry2x32.body_part1
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

set_option maxHeartbeats 4000000 in
/-- Statements of the hash, part 2: none writes a kept array. -/
theorem quiet_small2 : Quiet kept (fn_threefry2x32.body_part2 (F := F) main_call0.v6 main_call0.v8 main_call0.v9 main_call0.v10 main_call0.call0) := by
  unfold fn_threefry2x32.body_part2
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

set_option maxHeartbeats 4000000 in
/-- Statements of the hash, part 3: none writes a kept array. -/
theorem quiet_small3 : Quiet kept (fn_threefry2x32.body_part3 (F := F) main_call0.v6 main_call0.v8 main_call0.v9 main_call0.v10 main_call0.call0) := by
  unfold fn_threefry2x32.body_part3
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

/-- The hash of the key. -/
theorem quiet_small : Quiet kept (fn_threefry2x32.body (F := F) main_call0.v6 main_call0.v8 main_call0.v9 main_call0.v10 main_call0.call0) := by
  unfold fn_threefry2x32.body
  exact quiet_small0.both (quiet_small1.both (quiet_small2.both quiet_small3))

set_option maxHeartbeats 4000000 in
/-- Folding a number into the key. -/
theorem quiet_fold : Quiet kept (fn_threefry_fold_in.body (F := F) (.of main_v22) (.of main_c_6) main_call0) := by
  unfold fn_threefry_fold_in.body
  repeat' first
    | exact Quiet.done
    | refine Quiet.both quiet_small ?_
    | refine Quiet.step ?_ ?_
    | exact mild_binary (by decide +kernel) ..
    | exact mild_unary (by decide +kernel) ..
    | exact mild_nullary (by decide +kernel) ..
    | exact mild_reshape (by decide +kernel) ..

end Cert.ReferenceIdeal.Line

end
-- ==== Proof.RHashAll.lean ====
module

public import proofs.«01_k».proof.Proof.RHash

/-! The random bits, drawn for every entry of the matrix: again a line of operations that leaves the kept arrays alone. -/

@[expose] public section

set_option maxRecDepth 16384

noncomputable section

namespace Cert.ReferenceIdeal.Line

open Idealize.ShloMosaic Idealize.ShloMosaic.TcCoe Idealize.SL.Sem Idealize.ShloMosaic.StableHlo
open Cert.ReferenceIdeal Cert.ReferenceIdeal.Gen

variable {F : FTy → Type} [FloatOps F]

set_option maxHeartbeats 4000000 in
/-- Statements of the hash, part 0: none writes a kept array. -/
theorem quiet_big0 : Quiet kept (fn_threefry2x32_0.body_part0 (F := F) main_call1.v5 main_call1.v7 main_call1.v18 main_call1.v17 main_call1.call0) := by
  unfold fn_threefry2x32_0.body_part0
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

set_option maxHeartbeats 4000000 in
/-- Statements of the hash, part 1: none writes a kept array. -/
theorem quiet_big1 : Quiet kept (fn_threefry2x32_0.body_part1 (F := F) main_call1.v5 main_call1.v7 main_call1.v18 main_call1.v17 main_call1.call0) := by
  unfold fn_threefry2x32_0.body_part1
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

set_option maxHeartbeats 4000000 in
/-- Statements of the hash, part 2: none writes a kept array. -/
theorem quiet_big2 : Quiet kept (fn_threefry2x32_0.body_part2 (F := F) main_call1.v5 main_call1.v7 main_call1.v18 main_call1.v17 main_call1.call0) := by
  unfold fn_threefry2x32_0.body_part2
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

set_option maxHeartbeats 4000000 in
/-- Statements of the hash, part 3: none writes a kept array. -/
theorem quiet_big3 : Quiet kept (fn_threefry2x32_0.body_part3 (F := F) main_call1.v5 main_call1.v7 main_call1.v18 main_call1.v17 main_call1.call0) := by
  unfold fn_threefry2x32_0.body_part3
  repeat' first
    | exact Quiet.done
    | refine Quiet.step ?_ ?_
    | refine Quiet.last ?_
    | exact mild_binary (by decide +kernel) ..
    | exact mild_unary (by decide +kernel) ..
    | exact mild_nullary (by decide +kernel) ..
    | exact mild_reshape (by decide +kernel) ..

/-- The hash of every entry's counter. -/
theorem quiet_big : Quiet kept (fn_threefry2x32_0.body (F := F) main_call1.v5 main_call1.v7 main_call1.v18 main_call1.v17 main_call1.call0) := by
  unfold fn_threefry2x32_0.body
  exact quiet_big0.both (quiet_big1.both (quiet_big2.both quiet_big3))

end Cert.ReferenceIdeal.Line

end
-- ==== Proof.ROps.lean ====
module

public import proofs.«01_k».proof.Proof.RHashAll

/-! The reference as a line of operations: the lists of its operations before and after the random bits, and its run. -/

@[expose] public section

set_option maxRecDepth 16384

noncomputable section

namespace Cert.ReferenceIdeal.Line

open Idealize.ShloMosaic Idealize.ShloMosaic.TcCoe Idealize.SL.Sem Idealize.ShloMosaic.StableHlo
open Cert.ReferenceIdeal Facts₀ Facts

variable {F : FTy → Type} [FloatOps F] (d : Dev nD)

/-- The scores' exponentials, and the two matrices normalised by their row sums. -/
abbrev opsNorm : List (HloOp τ sig (Elt F)) :=
  [ StableHlo.nullary main_cst (constant S_ .f32 0x3DCCCCCD#32),
    StableHlo.unary main_cst main_v0 (broadcastInDim S4096x4096 ![] bcast_S_S4096x4096 : (⟨S_, .f32⟩ : BufTy).Contents (Elt F) → (⟨S4096x4096, .f32⟩ : BufTy).Contents (Elt F)),
    StableHlo.binary main_arg0 main_v0 main_v1 (Host.divf : (⟨S4096x4096, .f32⟩ : BufTy).Contents (Elt F) → (⟨S4096x4096, .f32⟩ : BufTy).Contents (Elt F) → (⟨S4096x4096, .f32⟩ : BufTy).Contents (Elt F)),
    StableHlo.unary main_v1 main_v2 (Host.exp : (⟨S4096x4096, .f32⟩ : BufTy).Contents (Elt F) → (⟨S4096x4096, .f32⟩ : BufTy).Contents (Elt F)),
    StableHlo.nullary main_cst_0 (constant S_ .f32 0x00000000#32),
    StableHlo.binary main_v2 main_cst_0 main_v3 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v3 main_v4 (broadcastInDim S4096x1 ![0] bcast_S4096_S4096x1_0 : (⟨S4096, .f32⟩ : BufTy).Contents (Elt F) → (⟨S4096x1, .f32⟩ : BufTy).Contents (Elt F)),
    StableHlo.nullary main_cst_1 (constant S_ .f32 0x2EDBE6FF#32),
    StableHlo.unary main_cst_1 main_v5 (broadcastInDim S4096x1 ![] bcast_S_S4096x1 : (⟨S_, .f32⟩ : BufTy).Contents (Elt F) → (⟨S4096x1, .f32⟩ : BufTy).Contents (Elt F)),
    StableHlo.binary main_v4 main_v5 main_v6 (addf : (⟨S4096x1, .f32⟩ : BufTy).Contents (Elt F) → (⟨S4096x1, .f32⟩ : BufTy).Contents (Elt F) → (⟨S4096x1, .f32⟩ : BufTy).Contents (Elt F)),
    StableHlo.unary main_v6 main_v7 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v2 main_v7 main_v8 (Host.divf : (⟨S4096x4096, .f32⟩ : BufTy).Contents (Elt F) → (⟨S4096x4096, .f32⟩ : BufTy).Contents (Elt F) → (⟨S4096x4096, .f32⟩ : BufTy).Contents (Elt F)),
    StableHlo.unary main_v2 main_v9 ((transpose S4096x4096 [1, 0] · transposes_S4096x4096_S4096x4096_1_0) : (⟨S4096x4096, .f32⟩ : BufTy).Contents (Elt F) → (⟨S4096x4096, .f32⟩ : BufTy).Contents (Elt F)),
    StableHlo.nullary main_cst_2 (constant S_ .f32 0x00000000#32),
    StableHlo.binary main_v9 main_cst_2 main_v10 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v10 main_v11 (broadcastInDim S4096x1 ![0] bcast_S4096_S4096x1_0 : (⟨S4096, .f32⟩ : BufTy).Contents (Elt F) → (⟨S4096x1, .f32⟩ : BufTy).Contents (Elt F)),
    StableHlo.nullary main_cst_3 (constant S_ .f32 0x2EDBE6FF#32),
    StableHlo.unary main_cst_3 main_v12 (broadcastInDim S4096x1 ![] bcast_S_S4096x1 : (⟨S_, .f32⟩ : BufTy).Contents (Elt F) → (⟨S4096x1, .f32⟩ : BufTy).Contents (Elt F)),
    StableHlo.binary main_v11 main_v12 main_v13 (addf : (⟨S4096x1, .f32⟩ : BufTy).Contents (Elt F) → (⟨S4096x1, .f32⟩ : BufTy).Contents (Elt F) → (⟨S4096x1, .f32⟩ : BufTy).Contents (Elt F)),
    StableHlo.unary main_v13 main_v14 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v9 main_v14 main_v15 (Host.divf : (⟨S4096x4096, .f32⟩ : BufTy).Contents (Elt F) → (⟨S4096x4096, .f32⟩ : BufTy).Contents (Elt F) → (⟨S4096x4096, .f32⟩ : BufTy).Contents (Elt F)) ]

/-- The two bounds of the draw, zero and one. -/
abbrev opsBounds : List (HloOp τ sig (Elt F)) :=
  [ StableHlo.nullary main_cst_7 (constant S_ .f32 0x00000000#32),
    StableHlo.nullary main_cst_8 (constant S_ .f32 0x3F800000#32),
    StableHlo.unary main_cst_7 main_call1_v0 (id : (⟨S_, .f32⟩ : BufTy).Contents (Elt F) → (⟨S_, .f32⟩ : BufTy).Contents (Elt F)),
    StableHlo.unary main_cst_8 main_call1_v1 (id : (⟨S_, .f32⟩ : BufTy).Contents (Elt F) → (⟨S_, .f32⟩ : BufTy).Contents (Elt F)),
    StableHlo.unary main_call1_v0 main_call1_v2 (broadcastInDim S1x1 ![] bcast_S_S1x1 : (⟨S_, .f32⟩ : BufTy).Contents (Elt F) → (⟨S1x1, .f32⟩ : BufTy).Contents (Elt F)),
    StableHlo.unary main_call1_v1 main_call1_v3 (broadcastInDim S1x1 ![] bcast_S_S1x1 : (⟨S_, .f32⟩ : BufTy).Contents (Elt F) → (⟨S1x1, .f32⟩ : BufTy).Contents (Elt F)) ]

/-- The random bits as floats: set below the exponent of one, read as a float, one subtracted, scaled to the bounds. -/
abbrev opsDraw0 : List (HloOp τ sig (Elt F)) :=
  [ StableHlo.nullary main_call1_c_2 (constantI S_ 32 9#32),
    StableHlo.unary main_call1_c_2 main_call1_v21 (broadcastInDim S4096x4096 ![] bcast_S_S4096x4096 : (⟨S_, .i32⟩ : BufTy).Contents (Elt F) → (⟨S4096x4096, .i32⟩ : BufTy).Contents (Elt F)),
    StableHlo.binary main_call1_v20 main_call1_v21 main_call1_v22 (Host.shrui : (⟨S4096x4096, .i32⟩ : BufTy).Contents (Elt F) → (⟨S4096x4096, .i32⟩ : BufTy).Contents (Elt F) → (⟨S4096x4096, .i32⟩ : BufTy).Contents (Elt F)),
    StableHlo.nullary main_call1_c_3 (constantI S_ 32 1065353216#32),
    StableHlo.unary main_call1_c_3 main_call1_v23 (broadcastInDim S4096x4096 ![] bcast_S_S4096x4096 : (⟨S_, .i32⟩ : BufTy).Contents (Elt F) → (⟨S4096x4096, .i32⟩ : BufTy).Contents (Elt F)),
    StableHlo.binary main_call1_v22 main_call1_v23 main_call1_v24 (ori : (⟨S4096x4096, .i32⟩ : BufTy).Contents (Elt F) → (⟨S4096x4096, .i32⟩ : BufTy).Contents (Elt F) → (⟨S4096x4096, .i32⟩ : BufTy).Contents (Elt F)),
    StableHlo.unary main_call1_v24 main_call1_v25 (bitcastToFloat .f32 : (⟨S4096x4096, .i32⟩ : BufTy).Contents (Elt F) → (⟨S4096x4096, .f32⟩ : BufTy).Contents (Elt F)),
    StableHlo.nullary main_call1_cst (constant S_ .f32 0x3F800000#32),
    StableHlo.unary main_call1_cst main_call1_v26 (broadcastInDim S4096x4096 ![] bcast_S_S4096x4096 : (⟨S_, .f32⟩ : BufTy).Contents (Elt F) → (⟨S4096x4096, .f32⟩ : BufTy).Contents (Elt F)),
    StableHlo.binary main_call1_v25 main_call1_v26 main_call1_v27 (subf : (⟨S4096x4096, .f32⟩ : BufTy).Contents (Elt F) → (⟨S4096x4096, .f32⟩ : BufTy).Contents (Elt F) → (⟨S4096x4096, .f32⟩ : BufTy).Contents (Elt F)),
    StableHlo.binary main_call1_v3 main_call1_v2 main_call1_v28 (subf : (⟨S1x1, .f32⟩ : BufTy).Contents (Elt F) → (⟨S1x1, .f32⟩ : BufTy).Contents (Elt F) → (⟨S1x1, .f32⟩ : BufTy).Contents (Elt F)),
    StableHlo.unary main_call1_v28 main_call1_v29 (broadcastInDim S4096x4096 ![0, 1] bcast_S1x1_S4096x4096_0_1 : (⟨S1x1, .f32⟩ : BufTy).Contents (Elt F) → (⟨S4096x4096, .f32⟩ : BufTy).Contents (Elt F)),
    StableHlo.binary main_call1_v27 main_call1_v29 main_call1_v30 (mulf : (⟨S4096x4096, .f32⟩ : BufTy).Contents (Elt F) → (⟨S4096x4096, .f32⟩ : BufTy).Contents (Elt F) → (⟨S4096x4096, .f32⟩ : BufTy).Contents (Elt F)),
    StableHlo.unary main_call1_v2 main_call1_v31 (broadcastInDim S4096x4096 ![0, 1] bcast_S1x1_S4096x4096_0_1 : (⟨S1x1, .f32⟩ : BufTy).Contents (Elt F) → (⟨S4096x4096, .f32⟩ : BufTy).Contents (Elt F)),
    StableHlo.binary main_call1_v30 main_call1_v31 main_call1_v32 (addf : (⟨S4096x4096, .f32⟩ : BufTy).Contents (Elt F) → (⟨S4096x4096, .f32⟩ : BufTy).Contents (Elt F) → (⟨S4096x4096, .f32⟩ : BufTy).Contents (Elt F)),
    StableHlo.unary main_call1_v2 main_call1_v33 (broadcastInDim S4096x4096 ![0, 1] bcast_S1x1_S4096x4096_0_1 : (⟨S1x1, .f32⟩ : BufTy).Contents (Elt F) → (⟨S4096x4096, .f32⟩ : BufTy).Contents (Elt F)),
    StableHlo.binary main_call1_v33 main_call1_v32 main_v24 (maximumf : (⟨S4096x4096, .f32⟩ : BufTy).Contents (Elt F) → (⟨S4096x4096, .f32⟩ : BufTy).Contents (Elt F) → (⟨S4096x4096, .f32⟩ : BufTy).Contents (Elt F)) ]

/-- The random matrix with its diagonal lowered below every entry of its row. -/
abbrev opsDraw1 : List (HloOp τ sig (Elt F)) :=
  [ StableHlo.nullary main_v25 (iotaInDim S4096x4096 32 0),
    StableHlo.nullary main_v26 (iotaInDim S4096x4096 32 1),
    StableHlo.nullary main_c_9 (constantI S_ 32 0#32),
    StableHlo.unary main_c_9 main_v27 (broadcastInDim S4096x4096 ![] bcast_S_S4096x4096 : (⟨S_, .i32⟩ : BufTy).Contents (Elt F) → (⟨S4096x4096, .i32⟩ : BufTy).Contents (Elt F)),
    StableHlo.binary main_v25 main_v27 main_v28 (addi : (⟨S4096x4096, .i32⟩ : BufTy).Contents (Elt F) → (⟨S4096x4096, .i32⟩ : BufTy).Contents (Elt F) → (⟨S4096x4096, .i32⟩ : BufTy).Contents (Elt F)),
    StableHlo.binary main_v28 main_v26 main_v29 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v29 main_v30 (uitofp .f32 : (⟨S4096x4096, .i1⟩ : BufTy).Contents (Elt F) → (⟨S4096x4096, .f32⟩ : BufTy).Contents (Elt F)),
    StableHlo.nullary main_cst_10 (constant S_ .f32 0x7F800000#32),
    StableHlo.binary main_v24 main_cst_10 main_v31 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_11 (constant S_ .f32 0x3F800000#32),
    StableHlo.unary main_cst_11 main_v32 (broadcastInDim S4096 ![] bcast_S_S4096 : (⟨S_, .f32⟩ : BufTy).Contents (Elt F) → (⟨S4096, .f32⟩ : BufTy).Contents (Elt F)),
    StableHlo.binary main_v31 main_v32 main_v33 (subf : (⟨S4096, .f32⟩ : BufTy).Contents (Elt F) → (⟨S4096, .f32⟩ : BufTy).Contents (Elt F) → (⟨S4096, .f32⟩ : BufTy).Contents (Elt F)),
    StableHlo.nullary main_cst_12 (constant S_ .f32 0x00000000#32),
    StableHlo.unary main_cst_12 main_v34 (broadcastInDim S4096x4096 ![] bcast_S_S4096x4096 : (⟨S_, .f32⟩ : BufTy).Contents (Elt F) → (⟨S4096x4096, .f32⟩ : BufTy).Contents (Elt F)),
    StableHlo.binary main_v30 main_v34 main_v35 (cmpf .ogt : (⟨S4096x4096, .f32⟩ : BufTy).Contents (Elt F) → (⟨S4096x4096, .f32⟩ : BufTy).Contents (Elt F) → (⟨S4096x4096, .i1⟩ : BufTy).Contents (Elt F)),
    StableHlo.unary main_v33 main_v36 (broadcastInDim S4096x1 ![0] bcast_S4096_S4096x1_0 : (⟨S4096, .f32⟩ : BufTy).Contents (Elt F) → (⟨S4096x1, .f32⟩ : BufTy).Contents (Elt F)),
    StableHlo.unary main_v36 main_call2_v0 (broadcastInDim S4096x4096 ![0, 1] bcast_S4096x1_S4096x4096_0_1 : (⟨S4096x1, .f32⟩ : BufTy).Contents (Elt F) → (⟨S4096x4096, .f32⟩ : BufTy).Contents (Elt F)),
    StableHlo.ternary main_v35 main_call2_v0 main_v24 main_v37 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

/-- The mask: ones at the positions of each row's largest entries but one. -/
abbrev opsMask : List (HloOp τ sig (Elt F)) :=
  [ StableHlo.unary main_v37 main_values ((fun x => (Host.topK S4096x4095 1 (FloatOps.cmpfTotal .gt) x sliceFits_S4096x4096_S4096x4095).1) : (⟨S4096x4096, .f32⟩ : BufTy).Contents (Elt F) → (⟨S4096x4095, .f32⟩ : BufTy).Contents (Elt F)),
    StableHlo.unary main_v37 main_indices ((fun x => (Host.topK S4096x4095 1 (FloatOps.cmpfTotal .gt) x sliceFits_S4096x4096_S4096x4095).2) : (⟨S4096x4096, .f32⟩ : BufTy).Contents (Elt F) → (⟨S4096x4095, .i32⟩ : BufTy).Contents (Elt F)),
    StableHlo.nullary main_cst_13 (constant S_ .f32 0x00000000#32),
    StableHlo.unary main_cst_13 main_v38 (broadcastInDim S4096x4096 ![] bcast_S_S4096x4096 : (⟨S_, .f32⟩ : BufTy).Contents (Elt F) → (⟨S4096x4096, .f32⟩ : BufTy).Contents (Elt F)),
    StableHlo.nullary main_v39 (iotaInDim S4096 32 0),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.nullary main_c_14 (constantI S_ 32 0#32),
    StableHlo.unary main_c_14 main_v41 (broadcastInDim S4096x1 ![] bcast_S_S4096x1 : (⟨S_, .i32⟩ : BufTy).Contents (Elt F) → (⟨S4096x1, .i32⟩ : BufTy).Contents (Elt F)),
    StableHlo.binary main_v40 main_v41 main_v42 (cmpi .slt : (⟨S4096x1, .i32⟩ : BufTy).Contents (Elt F) → (⟨S4096x1, .i32⟩ : BufTy).Contents (Elt F) → (⟨S4096x1, .i1⟩ : BufTy).Contents (Elt F)),
    StableHlo.nullary main_c_15 (constantI S_ 32 4096#32),
    StableHlo.unary main_c_15 main_v43 (broadcastInDim S4096x1 ![] bcast_S_S4096x1 : (⟨S_, .i32⟩ : BufTy).Contents (Elt F) → (⟨S4096x1, .i32⟩ : BufTy).Contents (Elt F)),
    StableHlo.binary main_v40 main_v43 main_v44 (addi : (⟨S4096x1, .i32⟩ : BufTy).Contents (Elt F) → (⟨S4096x1, .i32⟩ : BufTy).Contents (Elt F) → (⟨S4096x1, .i32⟩ : BufTy).Contents (Elt F)),
    StableHlo.ternary main_v42 main_v44 main_v40 main_v45 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_16 (constantI S_ 32 0#32),
    StableHlo.unary main_c_16 main_v46 (broadcastInDim S4096x4095 ![] bcast_S_S4096x4095 : (⟨S_, .i32⟩ : BufTy).Contents (Elt F) → (⟨S4096x4095, .i32⟩ : BufTy).Contents (Elt F)),
    StableHlo.binary main_indices main_v46 main_v47 (cmpi .slt : (⟨S4096x4095, .i32⟩ : BufTy).Contents (Elt F) → (⟨S4096x4095, .i32⟩ : BufTy).Contents (Elt F) → (⟨S4096x4095, .i1⟩ : BufTy).Contents (Elt F)),
    StableHlo.nullary main_c_17 (constantI S_ 32 4096#32),
    StableHlo.unary main_c_17 main_v48 (broadcastInDim S4096x4095 ![] bcast_S_S4096x4095 : (⟨S_, .i32⟩ : BufTy).Contents (Elt F) → (⟨S4096x4095, .i32⟩ : BufTy).Contents (Elt F)),
    StableHlo.binary main_indices main_v48 main_v49 (addi : (⟨S4096x4095, .i32⟩ : BufTy).Contents (Elt F) → (⟨S4096x4095, .i32⟩ : BufTy).Contents (Elt F) → (⟨S4096x4095, .i32⟩ : BufTy).Contents (Elt F)),
    StableHlo.ternary main_v47 main_v49 main_indices main_v50 (select : (⟨S4096x4095, .i1⟩ : BufTy).Contents (Elt F) → (⟨S4096x4095, .i32⟩ : BufTy).Contents (Elt F) → (⟨S4096x4095, .i32⟩ : BufTy).Contents (Elt F) → (⟨S4096x4095, .i32⟩ : BufTy).Contents (Elt F)),
    StableHlo.unary main_v45 main_v51 (broadcastInDim S4096x4095 ![0, 1] bcast_S4096x1_S4096x4095_0_1 : (⟨S4096x1, .i32⟩ : BufTy).Contents (Elt F) → (⟨S4096x4095, .i32⟩ : BufTy).Contents (Elt F)),
    StableHlo.unary main_v51 main_v52 (broadcastInDim S4096x4095x1 ![0, 1] bcast_S4096x4095_S4096x4095x1_0_1 : (⟨S4096x4095, .i32⟩ : BufTy).Contents (Elt F) → (⟨S4096x4095x1, .i32⟩ : BufTy).Contents (Elt F)),
    StableHlo.unary main_v50 main_v53 (broadcastInDim S4096x4095x1 ![0, 1] bcast_S4096x4095_S4096x4095x1_0_1 : (⟨S4096x4095, .i32⟩ : BufTy).Contents (Elt F) → (⟨S4096x4095x1, .i32⟩ : BufTy).Contents (Elt F)),
    StableHlo.binary main_v52 main_v53 main_v54 ((fun a b => concatenate S4096x4095x2 2 [⟨S4096x4095x1, a⟩, ⟨S4096x4095x1, b⟩] concatenates_S4096x4095x1_S4096x4095x1_S4096x4095x2_d2) : (⟨S4096x4095x1, .i32⟩ : BufTy).Contents (Elt F) → (⟨S4096x4095x1, .i32⟩ : BufTy).Contents (Elt F) → (⟨S4096x4095x2, .i32⟩ : BufTy).Contents (Elt F)),
    StableHlo.nullary main_cst_18 (constant S_ .f32 0x3F800000#32),
    StableHlo.unary main_cst_18 main_v55 (broadcastInDim S4096x4095 ![] bcast_S_S4096x4095 : (⟨S_, .f32⟩ : BufTy).Contents (Elt F) → (⟨S4096x4095, .f32⟩ : BufTy).Contents (Elt F)),
    StableHlo.ternary main_v38 main_v54 main_v55 main_v56 ((fun x i u => Host.scatter scatter_S4096x4096_S4096x4095x2_S4096x4095_n_01_01_2 (fun _ b => b) x i u) : (⟨S4096x4096, .f32⟩ : BufTy).Contents (Elt F) → (⟨S4096x4095x2, .i32⟩ : BufTy).Contents (Elt F) → (⟨S4096x4095, .f32⟩ : BufTy).Contents (Elt F) → (⟨S4096x4096, .f32⟩ : BufTy).Contents (Elt F)) ]

/-- The first criterion. -/
abbrev opsRow : List (HloOp τ sig (Elt F)) :=
  [ StableHlo.nullary main_cst_19 (constant S_ .f32 0x3F800000#32),
    StableHlo.unary main_cst_19 main_v57 (broadcastInDim S4096x4096 ![] bcast_S_S4096x4096 : (⟨S_, .f32⟩ : BufTy).Contents (Elt F) → (⟨S4096x4096, .f32⟩ : BufTy).Contents (Elt F)),
    StableHlo.binary main_v57 main_v8 main_v58 (subf : (⟨S4096x4096, .f32⟩ : BufTy).Contents (Elt F) → (⟨S4096x4096, .f32⟩ : BufTy).Contents (Elt F) → (⟨S4096x4096, .f32⟩ : BufTy).Contents (Elt F)),
    StableHlo.nullary main_cst_20 (constant S_ .f32 0x2EDBE6FF#32),
    StableHlo.unary main_cst_20 main_v59 (broadcastInDim S4096x4096 ![] bcast_S_S4096x4096 : (⟨S_, .f32⟩ : BufTy).Contents (Elt F) → (⟨S4096x4096, .f32⟩ : BufTy).Contents (Elt F)),
    StableHlo.binary main_v58 main_v59 main_v60 (addf : (⟨S4096x4096, .f32⟩ : BufTy).Contents (Elt F) → (⟨S4096x4096, .f32⟩ : BufTy).Contents (Elt F) → (⟨S4096x4096, .f32⟩ : BufTy).Contents (Elt F)),
    StableHlo.unary main_v60 main_v61 (Host.log : (⟨S4096x4096, .f32⟩ : BufTy).Contents (Elt F) → (⟨S4096x4096, .f32⟩ : BufTy).Contents (Elt F)),
    StableHlo.binary main_v61 main_v56 main_v62 (mulf : (⟨S4096x4096, .f32⟩ : BufTy).Contents (Elt F) → (⟨S4096x4096, .f32⟩ : BufTy).Contents (Elt F) → (⟨S4096x4096, .f32⟩ : BufTy).Contents (Elt F)),
    StableHlo.nullary main_cst_21 (constant S_ .f32 0x00000000#32),
    StableHlo.binary main_v62 main_cst_21 main_v63 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_22 (constant S_ .f32 0x00000000#32),
    StableHlo.binary main_v63 main_cst_22 main_v64 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_23 (constant S_ .f32 0x45800000#32),
    StableHlo.binary main_v64 main_cst_23 main_v65 (Host.divf : (⟨S_, .f32⟩ : BufTy).Contents (Elt F) → (⟨S_, .f32⟩ : BufTy).Contents (Elt F) → (⟨S_, .f32⟩ : BufTy).Contents (Elt F)),
    StableHlo.unary main_v65 main_v66 (Host.negf : (⟨S_, .f32⟩ : BufTy).Contents (Elt F) → (⟨S_, .f32⟩ : BufTy).Contents (Elt F)) ]

/-- The second criterion, and the sum of the two. -/
abbrev opsCol : List (HloOp τ sig (Elt F)) :=
  [ StableHlo.nullary main_cst_24 (constant S_ .f32 0x3F800000#32),
    StableHlo.unary main_cst_24 main_v67 (broadcastInDim S4096x4096 ![] bcast_S_S4096x4096 : (⟨S_, .f32⟩ : BufTy).Contents (Elt F) → (⟨S4096x4096, .f32⟩ : BufTy).Contents (Elt F)),
    StableHlo.binary main_v67 main_v15 main_v68 (subf : (⟨S4096x4096, .f32⟩ : BufTy).Contents (Elt F) → (⟨S4096x4096, .f32⟩ : BufTy).Contents (Elt F) → (⟨S4096x4096, .f32⟩ : BufTy).Contents (Elt F)),
    StableHlo.nullary main_cst_25 (constant S_ .f32 0x2EDBE6FF#32),
    StableHlo.unary main_cst_25 main_v69 (broadcastInDim S4096x4096 ![] bcast_S_S4096x4096 : (⟨S_, .f32⟩ : BufTy).Contents (Elt F) → (⟨S4096x4096, .f32⟩ : BufTy).Contents (Elt F)),
    StableHlo.binary main_v68 main_v69 main_v70 (addf : (⟨S4096x4096, .f32⟩ : BufTy).Contents (Elt F) → (⟨S4096x4096, .f32⟩ : BufTy).Contents (Elt F) → (⟨S4096x4096, .f32⟩ : BufTy).Contents (Elt F)),
    StableHlo.unary main_v70 main_v71 (Host.log : (⟨S4096x4096, .f32⟩ : BufTy).Contents (Elt F) → (⟨S4096x4096, .f32⟩ : BufTy).Contents (Elt F)),
    StableHlo.binary main_v71 main_v56 main_v72 (mulf : (⟨S4096x4096, .f32⟩ : BufTy).Contents (Elt F) → (⟨S4096x4096, .f32⟩ : BufTy).Contents (Elt F) → (⟨S4096x4096, .f32⟩ : BufTy).Contents (Elt F)),
    StableHlo.nullary main_cst_26 (constant S_ .f32 0x00000000#32),
    StableHlo.binary main_v72 main_cst_26 main_v73 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.nullary main_cst_27 (constant S_ .f32 0x00000000#32),
    StableHlo.binary main_v73 main_cst_27 main_v74 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_28 (constant S_ .f32 0x45800000#32),
    StableHlo.binary main_v74 main_cst_28 main_v75 (Host.divf : (⟨S_, .f32⟩ : BufTy).Contents (Elt F) → (⟨S_, .f32⟩ : BufTy).Contents (Elt F) → (⟨S_, .f32⟩ : BufTy).Contents (Elt F)),
    StableHlo.unary main_v75 main_v76 (Host.negf : (⟨S_, .f32⟩ : BufTy).Contents (Elt F) → (⟨S_, .f32⟩ : BufTy).Contents (Elt F)),
    StableHlo.binary main_v66 main_v76 main_v77 (addf : (⟨S_, .f32⟩ : BufTy).Contents (Elt F) → (⟨S_, .f32⟩ : BufTy).Contents (Elt F) → (⟨S_, .f32⟩ : BufTy).Contents (Elt F)) ]

/-- The program of one line after that of another is the two lines, one after the other. -/
theorem line_then {p q : HostProg F} {A B : List (HloOp τ sig (Elt F))} (hp : p = seq A) (hq : q = seq B) : (p >>= fun _ => q) = seq (A ++ B) := by
  subst hp hq; exact (seq_append A B).symm

/-- An operation before a line. -/
theorem op_then {q : HostProg F} {op : HloOp τ sig (Elt F)} {B : List (HloOp τ sig (Elt F))} (hq : q = seq B) :
    ((hlo rfl op fun _ => .ret (⟨⟩ : PUnit)) >>= fun _ => q) = seq (op :: B) := by
  subst hq; rfl

set_option maxHeartbeats 4000000 in
/-- The draw: the bounds, the hash of every entry's counter, and the bits as floats. -/
theorem uniform_around : Around kept (opsBounds.drop 2) opsDraw0 (fn_uniform.body (F := F) (.of main_v23) (.of main_cst_7) (.of main_cst_8) main_call1) := by
  unfold fn_uniform.body
  iterate 4 refine Around.head ?_
  repeat' first
    | exact Around.tail rfl
    | refine Around.call quiet_big ?_
    | refine Around.skip ?_ ?_
    | exact mild_binary (by decide +kernel) ..
    | exact mild_unary (by decide +kernel) ..
    | exact mild_nullary (by decide +kernel) ..
    | exact mild_reshape (by decide +kernel) ..

set_option maxHeartbeats 4000000 in
/-- The reference's first statements: the normalised matrices, the key, the draw, and the first of the mask's. -/
theorem part0_around {u : List (HloOp τ sig (Elt F))}
    (hu : fn_uniform.body (F := F) (.of main_v23) (.of main_cst_7) (.of main_cst_8) main_call1 = seq u) :
    Around kept (opsNorm (F := F)) (opsBounds.take 2 ++ (u ++ (opsDraw1 ++ opsMask.take 7))) (main_part0 (F := F) d) := by
  unfold main_part0
  rw [hu]
  iterate 21 refine Around.head ?_
  repeat' first
    | refine Around.call quiet_fold (Around.tail ?_)
    | refine Around.skip ?_ ?_
    | exact mild_binary (by decide +kernel) ..
    | exact mild_unary (by decide +kernel) ..
    | exact mild_nullary (by decide +kernel) ..
    | exact mild_reshape (by decide +kernel) ..
  exact op_then (op_then (B := u ++ (opsDraw1 ++ opsMask.take 7)) (line_then (A := u) (B := opsDraw1 ++ opsMask.take 7) rfl rfl))

set_option maxHeartbeats 4000000 in
/-- The reference's other statements. -/
theorem part1_eq : main_part1 (F := F) d = seq (opsMask.drop 7 ++ (opsRow ++ opsCol)) := by
  unfold main_part1; rfl

/-- The operations after the random bits. -/
abbrev opsAfter : List (HloOp τ sig (Elt F)) := (opsDraw0 ++ opsDraw1) ++ (opsMask ++ (opsRow ++ opsCol))

/-- The whole reference: the normalised matrices, the key, the bounds, the random bits, and the rest. -/
theorem main_line : ∃ mid mid' : List (HloOp τ sig (Elt F)), main (F := F) d = seq (opsNorm ++ (mid ++ (opsBounds ++ (mid' ++ opsAfter))))
    ∧ (∀ op ∈ mid, Mild kept op) ∧ ∀ op ∈ mid', Mild kept op := by
  obtain ⟨mid', hu, hm'⟩ := uniform_around (F := F)
  obtain ⟨mid, h0, hm⟩ := part0_around d hu
  refine ⟨mid, mid', ?_, hm, hm'⟩
  unfold main
  rw [line_then h0 (part1_eq d), opsAfter]
  have e : (opsMask : List (HloOp τ sig (Elt F))) = opsMask.take 7 ++ opsMask.drop 7 := (List.take_append_drop 7 _).symm
  have e' : (opsBounds : List (HloOp τ sig (Elt F))) = opsBounds.take 2 ++ opsBounds.drop 2 := (List.take_append_drop 2 _).symm
  generalize (opsMask : List (HloOp τ sig (Elt F))) = M at *
  generalize (opsBounds : List (HloOp τ sig (Elt F))) = B at *
  conv_rhs => rw [e, e']
  simp only [List.append_assoc]

end Cert.ReferenceIdeal.Line

end
-- ==== Proof.RRead.lean ====
module

public import proofs.«01_k».proof.Proof.ROps
public import Idealize.ShloMosaic.Lib.Quiescent

/-! The reference's run, read: its result as a function of the scores and of the random bits. -/

@[expose] public section

set_option maxRecDepth 16384

noncomputable section

namespace Cert.ReferenceIdeal.Line

open Idealize.ShloMosaic Idealize.ShloMosaic.TcCoe Idealize.SL.Sem Idealize.ShloMosaic.StableHlo
open Cert.ReferenceIdeal Facts₀ Facts

variable {F : FTy → Type} [FloatOps F]

/-! ## The reference's pieces -/

/-- A constant over the whole matrix. -/
abbrev splat (w : BitVec 32) : FVec F S4096x4096 .f32 := broadcastInDim S4096x4096 ![] bcast_S_S4096x4096 (constant S_ .f32 w)

/-- The exponentials of the scores over the temperature. -/
def expScores (x : FVec F S4096x4096 .f32) : FVec F S4096x4096 .f32 := Host.exp (Host.divf x (splat 0x3DCCCCCD#32))

/-- A matrix over its row sums plus a small constant. -/
def normal (e : FVec F S4096x4096 .f32) : FVec F S4096x4096 .f32 :=
  Host.divf e (broadcastInDim S4096x4096 ![0, 1] bcast_S4096x1_S4096x4096_0_1
    (addf (broadcastInDim S4096x1 ![0] bcast_S4096_S4096x1_0
      (Host.reduceAdd e (constant S_ .f32 0x00000000#32) reducesTo_S4096x4096_S4096_d1 h_S_ : FVec F S4096 .f32))
      (broadcastInDim S4096x1 ![] bcast_S_S4096x1 (constant S_ .f32 0x2EDBE6FF#32))))

/-- A bound of the draw. -/
def bound (w : BitVec 32) : FVec F S1x1 .f32 := broadcastInDim S1x1 ![] bcast_S_S1x1 (constant S_ .f32 w)

/-- The random matrix of the bits, between two bounds. -/
def drawnIn (lo hi : FVec F S1x1 .f32) (b : IVec S4096x4096 32) : FVec F S4096x4096 .f32 :=
  maximumf (broadcastInDim S4096x4096 ![0, 1] bcast_S1x1_S4096x4096_0_1 lo)
    (addf (mulf (subf (bitcastToFloat .f32 (ori (Host.shrui b (broadcastInDim S4096x4096 ![] bcast_S_S4096x4096 (constantI S_ 32 9#32)))
          (broadcastInDim S4096x4096 ![] bcast_S_S4096x4096 (constantI S_ 32 1065353216#32))) : FVec F S4096x4096 .f32) (splat 0x3F800000#32))
        (broadcastInDim S4096x4096 ![0, 1] bcast_S1x1_S4096x4096_0_1 (subf hi lo)))
      (broadcastInDim S4096x4096 ![0, 1] bcast_S1x1_S4096x4096_0_1 lo))

/-- The random matrix of the bits, between zero and one. -/
def drawn (b : IVec S4096x4096 32) : FVec F S4096x4096 .f32 := drawnIn (bound 0x00000000#32) (bound 0x3F800000#32) b

/-- Whether an entry is on the diagonal. -/
def onDiag : IVec S4096x4096 1 :=
  cmpf .ogt (uitofp .f32 (cmpi .eq (addi (iotaInDim S4096x4096 32 0) (broadcastInDim S4096x4096 ![] bcast_S_S4096x4096 (constantI S_ 32 0#32)))
    (iotaInDim S4096x4096 32 1)) : FVec F S4096x4096 .f32) (splat 0x00000000#32)

/-- The matrix with its diagonal lowered below every entry of its row. -/
def lowered (r : FVec F S4096x4096 .f32) : FVec F S4096x4096 .f32 :=
  select (onDiag (F := F)) (broadcastInDim S4096x4096 ![0, 1] bcast_S4096x1_S4096x4096_0_1 (broadcastInDim S4096x1 ![0] bcast_S4096_S4096x1_0
    (subf (Host.reduce FloatOps.minimumf r (constant S_ .f32 0x7F800000#32) reducesTo_S4096x4096_S4096_d1 h_S_ : FVec F S4096 .f32)
      (broadcastInDim S4096 ![] bcast_S_S4096 (constant S_ .f32 0x3F800000#32))))) r

/-- The positions of each row's largest entries. -/
def largest (r : FVec F S4096x4096 .f32) : IVec S4096x4095 32 :=
  (Host.topK S4096x4095 1 (FloatOps.cmpfTotal .gt) r sliceFits_S4096x4096_S4096x4095).2

/-- The row number of each position. -/
def rowNumber : IVec S4096x4095 32 :=
  broadcastInDim S4096x4095 ![0, 1] bcast_S4096x1_S4096x4095_0_1
    (select (cmpi .slt (broadcastInDim S4096x1 ![0] bcast_S4096_S4096x1_0 (iotaInDim S4096 32 0)) (broadcastInDim S4096x1 ![] bcast_S_S4096x1 (constantI S_ 32 0#32)))
      (addi (broadcastInDim S4096x1 ![0] bcast_S4096_S4096x1_0 (iotaInDim S4096 32 0)) (broadcastInDim S4096x1 ![] bcast_S_S4096x1 (constantI S_ 32 4096#32)))
      (broadcastInDim S4096x1 ![0] bcast_S4096_S4096x1_0 (iotaInDim S4096 32 0)))

/-- The column number of each position. -/
def colNumber (k : IVec S4096x4095 32) : IVec S4096x4095 32 :=
  select (cmpi .slt k (broadcastInDim S4096x4095 ![] bcast_S_S4096x4095 (constantI S_ 32 0#32)))
    (addi k (broadcastInDim S4096x4095 ![] bcast_S_S4096x4095 (constantI S_ 32 4096#32))) k

/-- The mask: one at each row's largest entries but one, zero elsewhere. -/
def maskOf (r : FVec F S4096x4096 .f32) : FVec F S4096x4096 .f32 :=
  Host.scatter scatter_S4096x4096_S4096x4095x2_S4096x4095_n_01_01_2 (fun _ b => b) (splat 0x00000000#32)
    (concatenate S4096x4095x2 2 [⟨S4096x4095x1, broadcastInDim S4096x4095x1 ![0, 1] bcast_S4096x4095_S4096x4095x1_0_1 rowNumber⟩,
      ⟨S4096x4095x1, broadcastInDim S4096x4095x1 ![0, 1] bcast_S4096x4095_S4096x4095x1_0_1 (colNumber (largest r))⟩]
      concatenates_S4096x4095x1_S4096x4095x1_S4096x4095x2_d2)
    (broadcastInDim S4096x4095 ![] bcast_S_S4096x4095 (constant S_ .f32 0x3F800000#32))

/-- The criterion of a normalised matrix under a mask. -/
def criterion (n k : FVec F S4096x4096 .f32) : FVec F S_ .f32 :=
  Host.negf (Host.divf (Host.reduceAdd (Host.reduceAdd (mulf (Host.log (addf (subf (splat 0x3F800000#32) n) (splat 0x2EDBE6FF#32))) k)
      (constant S_ .f32 0x00000000#32) reducesTo_S4096x4096_S4096_d1 h_S_ : FVec F S4096 .f32)
    (constant S_ .f32 0x00000000#32) reducesTo_S4096_S_d0 h_S_) (constant S_ .f32 0x45800000#32))

/-- The reference's result, of the scores and of the random bits. -/
def outcome (x : FVec F S4096x4096 .f32) (b : IVec S4096x4096 32) : FVec F S_ .f32 :=
  addf (criterion (normal (expScores x)) (maskOf (lowered (drawn b))))
    (criterion (normal (transpose S4096x4096 [1, 0] (expScores x) transposes_S4096x4096_S4096x4096_1_0)) (maskOf (lowered (drawn b))))

/-! ## Each segment leaves its result -/

/-- The mask's operations up to the two columns of indices. -/
abbrev opsIndex : List (HloOp τ sig (Elt F)) :=
  [ StableHlo.unary main_v37 main_values ((fun x => (Host.topK S4096x4095 1 (FloatOps.cmpfTotal .gt) x sliceFits_S4096x4096_S4096x4095).1) : (⟨S4096x4096, .f32⟩ : BufTy).Contents (Elt F) → (⟨S4096x4095, .f32⟩ : BufTy).Contents (Elt F)),
    StableHlo.unary main_v37 main_indices ((fun x => (Host.topK S4096x4095 1 (FloatOps.cmpfTotal .gt) x sliceFits_S4096x4096_S4096x4095).2) : (⟨S4096x4096, .f32⟩ : BufTy).Contents (Elt F) → (⟨S4096x4095, .i32⟩ : BufTy).Contents (Elt F)),
    StableHlo.nullary main_cst_13 (constant S_ .f32 0x00000000#32),
    StableHlo.unary main_cst_13 main_v38 (broadcastInDim S4096x4096 ![] bcast_S_S4096x4096 : (⟨S_, .f32⟩ : BufTy).Contents (Elt F) → (⟨S4096x4096, .f32⟩ : BufTy).Contents (Elt F)),
    StableHlo.nullary main_v39 (iotaInDim S4096 32 0),
    StableHlo.unary main_v39 main_v40 (broadcastInDim S4096x1 ![0] bcast_S4096_S4096x1_0 : (⟨S4096, .i32⟩ : BufTy).Contents (Elt F) → (⟨S4096x1, .i32⟩ : BufTy).Contents (Elt F)),
    StableHlo.nullary main_c_14 (constantI S_ 32 0#32),
    StableHlo.unary main_c_14 main_v41 (broadcastInDim S4096x1 ![] bcast_S_S4096x1 : (⟨S_, .i32⟩ : BufTy).Contents (Elt F) → (⟨S4096x1, .i32⟩ : BufTy).Contents (Elt F)),
    StableHlo.binary main_v40 main_v41 main_v42 (cmpi .slt : (⟨S4096x1, .i32⟩ : BufTy).Contents (Elt F) → (⟨S4096x1, .i32⟩ : BufTy).Contents (Elt F) → (⟨S4096x1, .i1⟩ : BufTy).Contents (Elt F)),
    StableHlo.nullary main_c_15 (constantI S_ 32 4096#32),
    StableHlo.unary main_c_15 main_v43 (broadcastInDim S4096x1 ![] bcast_S_S4096x1 : (⟨S_, .i32⟩ : BufTy).Contents (Elt F) → (⟨S4096x1, .i32⟩ : BufTy).Contents (Elt F)),
    StableHlo.binary main_v40 main_v43 main_v44 (addi : (⟨S4096x1, .i32⟩ : BufTy).Contents (Elt F) → (⟨S4096x1, .i32⟩ : BufTy).Contents (Elt F) → (⟨S4096x1, .i32⟩ : BufTy).Contents (Elt F)),
    StableHlo.ternary main_v42 main_v44 main_v40 main_v45 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_16 (constantI S_ 32 0#32),
    StableHlo.unary main_c_16 main_v46 (broadcastInDim S4096x4095 ![] bcast_S_S4096x4095 : (⟨S_, .i32⟩ : BufTy).Contents (Elt F) → (⟨S4096x4095, .i32⟩ : BufTy).Contents (Elt F)),
    StableHlo.binary main_indices main_v46 main_v47 (cmpi .slt : (⟨S4096x4095, .i32⟩ : BufTy).Contents (Elt F) → (⟨S4096x4095, .i32⟩ : BufTy).Contents (Elt F) → (⟨S4096x4095, .i1⟩ : BufTy).Contents (Elt F)),
    StableHlo.nullary main_c_17 (constantI S_ 32 4096#32),
    StableHlo.unary main_c_17 main_v48 (broadcastInDim S4096x4095 ![] bcast_S_S4096x4095 : (⟨S_, .i32⟩ : BufTy).Contents (Elt F) → (⟨S4096x4095, .i32⟩ : BufTy).Contents (Elt F)),
    StableHlo.binary main_indices main_v48 main_v49 (addi : (⟨S4096x4095, .i32⟩ : BufTy).Contents (Elt F) → (⟨S4096x4095, .i32⟩ : BufTy).Contents (Elt F) → (⟨S4096x4095, .i32⟩ : BufTy).Contents (Elt F)),
    StableHlo.ternary main_v47 main_v49 main_indices main_v50 (select : (⟨S4096x4095, .i1⟩ : BufTy).Contents (Elt F) → (⟨S4096x4095, .i32⟩ : BufTy).Contents (Elt F) → (⟨S4096x4095, .i32⟩ : BufTy).Contents (Elt F) → (⟨S4096x4095, .i32⟩ : BufTy).Contents (Elt F)),
    StableHlo.unary main_v45 main_v51 (broadcastInDim S4096x4095 ![0, 1] bcast_S4096x1_S4096x4095_0_1 : (⟨S4096x1, .i32⟩ : BufTy).Contents (Elt F) → (⟨S4096x4095, .i32⟩ : BufTy).Contents (Elt F)),
    StableHlo.unary main_v51 main_v52 (broadcastInDim S4096x4095x1 ![0, 1] bcast_S4096x4095_S4096x4095x1_0_1 : (⟨S4096x4095, .i32⟩ : BufTy).Contents (Elt F) → (⟨S4096x4095x1, .i32⟩ : BufTy).Contents (Elt F)),
    StableHlo.unary main_v50 main_v53 (broadcastInDim S4096x4095x1 ![0, 1] bcast_S4096x4095_S4096x4095x1_0_1 : (⟨S4096x4095, .i32⟩ : BufTy).Contents (Elt F) → (⟨S4096x4095x1, .i32⟩ : BufTy).Contents (Elt F)) ]

/-- The mask's last operations: the indices joined, and the ones written there. -/
abbrev opsWrite : List (HloOp τ sig (Elt F)) :=
  [ StableHlo.binary main_v52 main_v53 main_v54 ((fun a b => concatenate S4096x4095x2 2 [⟨S4096x4095x1, a⟩, ⟨S4096x4095x1, b⟩] concatenates_S4096x4095x1_S4096x4095x1_S4096x4095x2_d2) : (⟨S4096x4095x1, .i32⟩ : BufTy).Contents (Elt F) → (⟨S4096x4095x1, .i32⟩ : BufTy).Contents (Elt F) → (⟨S4096x4095x2, .i32⟩ : BufTy).Contents (Elt F)),
    StableHlo.nullary main_cst_18 (constant S_ .f32 0x3F800000#32),
    StableHlo.unary main_cst_18 main_v55 (broadcastInDim S4096x4095 ![] bcast_S_S4096x4095 : (⟨S_, .f32⟩ : BufTy).Contents (Elt F) → (⟨S4096x4095, .f32⟩ : BufTy).Contents (Elt F)),
    StableHlo.ternary main_v38 main_v54 main_v55 main_v56 ((fun x i u => Host.scatter scatter_S4096x4096_S4096x4095x2_S4096x4095_n_01_01_2 (fun _ b => b) x i u) : (⟨S4096x4096, .f32⟩ : BufTy).Contents (Elt F) → (⟨S4096x4095x2, .i32⟩ : BufTy).Contents (Elt F) → (⟨S4096x4095, .f32⟩ : BufTy).Contents (Elt F) → (⟨S4096x4096, .f32⟩ : BufTy).Contents (Elt F)) ]

/-- The mask's operations are the indices and then the writing. -/
theorem opsMask_eq : (opsMask : List (HloOp τ sig (Elt F))) = opsIndex ++ opsWrite := rfl

/-- What two lines leave is what the second leaves of what the first leaves. -/
theorem after_two (A B : List (HloOp τ sig (Elt F))) (V : Valuation τ sig (Elt F)) : after (A ++ B) V = after B (after A V) := by
  induction A generalizing V with
  | nil => rfl
  | cons o A ih => exact ih _

variable (V : Valuation τ sig (Elt F))

set_option maxHeartbeats 4000000 in
/-- The scores' exponentials over their row sums. -/
theorem read_v8 : after opsNorm V (Proc.devRef .tc main_v8) = normal (expScores (V (Proc.devRef .tc main_arg0))) := by
  after_results_simp; rfl
set_option maxHeartbeats 4000000 in
/-- The transposed exponentials over their row sums. -/
theorem read_v15 : after opsNorm V (Proc.devRef .tc main_v15)
    = normal (transpose S4096x4096 [1, 0] (expScores (V (Proc.devRef .tc main_arg0))) transposes_S4096x4096_S4096x4096_1_0) := by
  after_results_simp; rfl
/-- The lower bound of the draw is zero. -/
theorem read_low : after opsBounds V (Proc.devRef .tc main_call1_v2) = bound 0x00000000#32 := by
  after_results_simp; rfl
/-- The upper bound of the draw is one. -/
theorem read_high : after opsBounds V (Proc.devRef .tc main_call1_v3) = bound 0x3F800000#32 := by
  after_results_simp; rfl
set_option maxHeartbeats 4000000 in
/-- The random matrix with its lowered diagonal. -/
theorem read_v37 : after (opsDraw0 ++ opsDraw1) V (Proc.devRef .tc main_v37)
    = lowered (drawnIn (V (Proc.devRef .tc main_call1_v2)) (V (Proc.devRef .tc main_call1_v3)) (V (Proc.devRef .tc main_call1_v20))) := by
  simp only [List.cons_append, List.nil_append]
  after_results_simp; rfl
set_option maxHeartbeats 4000000 in
/-- The mask starts from zeros. -/
theorem read_v38 : after opsIndex V (Proc.devRef .tc main_v38) = splat 0x00000000#32 := by
  after_results_simp
set_option maxHeartbeats 4000000 in
/-- The row numbers of the places to write. -/
theorem read_v52 : after opsIndex V (Proc.devRef .tc main_v52) = broadcastInDim S4096x4095x1 ![0, 1] bcast_S4096x4095_S4096x4095x1_0_1 rowNumber := by
  after_results_simp; rfl
set_option maxHeartbeats 4000000 in
/-- The column numbers of the places to write. -/
theorem read_v53 : after opsIndex V (Proc.devRef .tc main_v53)
    = broadcastInDim S4096x4095x1 ![0, 1] bcast_S4096x4095_S4096x4095x1_0_1 (colNumber (largest (V (Proc.devRef .tc main_v37)))) := by
  after_results_simp; rfl
set_option maxHeartbeats 4000000 in
/-- The ones are written at the places that the two columns of indices give. -/
theorem read_write : after opsWrite V (Proc.devRef .tc main_v56)
    = Host.scatter scatter_S4096x4096_S4096x4095x2_S4096x4095_n_01_01_2 (fun _ b => b) (V (Proc.devRef .tc main_v38))
      (concatenate S4096x4095x2 2 [⟨S4096x4095x1, V (Proc.devRef .tc main_v52)⟩, ⟨S4096x4095x1, V (Proc.devRef .tc main_v53)⟩]
        concatenates_S4096x4095x1_S4096x4095x1_S4096x4095x2_d2)
      (broadcastInDim S4096x4095 ![] bcast_S_S4096x4095 (constant S_ .f32 0x3F800000#32)) := by
  after_results_simp; rfl
/-- The mask, of the random matrix. -/
theorem read_v56 : after opsMask V (Proc.devRef .tc main_v56) = maskOf (V (Proc.devRef .tc main_v37)) := by
  rw [opsMask_eq, after_two, read_write, read_v38, read_v52, read_v53, maskOf]; rfl
set_option maxHeartbeats 4000000 in
/-- The first criterion. -/
theorem read_v66 : after opsRow V (Proc.devRef .tc main_v66) = criterion (V (Proc.devRef .tc main_v8)) (V (Proc.devRef .tc main_v56)) := by
  after_results_simp; rfl
set_option maxHeartbeats 4000000 in
/-- The sum of the two criteria. -/
theorem read_v77 : after opsCol V (Proc.devRef .tc main_v77)
    = addf (V (Proc.devRef .tc main_v66)) (criterion (V (Proc.devRef .tc main_v15)) (V (Proc.devRef .tc main_v56))) := by
  after_results_simp; rfl

end Cert.ReferenceIdeal.Line

end
-- ==== Proof.RRun.lean ====
module

public import proofs.«01_k».proof.Proof.RRead
public import Idealize.ShloMosaic.Lib.Quiescent

/-! The reference's run: what its operations leave alone, and its result. -/

@[expose] public section

set_option maxRecDepth 16384

noncomputable section

namespace Cert.ReferenceIdeal.Line

open Idealize.ShloMosaic Idealize.ShloMosaic.TcCoe Idealize.SL.Sem Idealize.ShloMosaic.StableHlo
open Cert.ReferenceIdeal Facts₀ Facts

variable {F : FTy → Type} [FloatOps F]

/-! ## What each segment leaves alone -/

variable (V : Valuation τ sig (Elt F))

/-- An operation of three arrays is mild. -/
theorem mild_ternary {W : List (Ref sig .tc)} {c a b y : Ref sig .tc} (h : y ∉ W)
    (f : c.ty.Contents (Elt F) → a.ty.Contents (Elt F) → b.ty.Contents (Elt F) → y.ty.Contents (Elt F)) (hc ha hb hy) :
    Mild W (ternary (τ := τ) c a b y f hc ha hb hy) :=
  ⟨ternary_bufs_sub .., rfl, y, h, rfl⟩

/-- A line of operations mild for `W` leaves what `W` holds. -/
theorem after_kept {W : List (Ref sig .tc)} {ops : List (HloOp τ sig (Elt F))} (h : ∀ op ∈ ops, Mild W op) {r : Ref sig .tc} (hr : r ∈ W) :
    after ops V (Proc.devRef .tc r) = V (Proc.devRef .tc r) :=
  after_of_forall_not_mem ops V fun op ho hb => by
    obtain ⟨_, _, y, hy, hw⟩ := h op ho
    rw [hw, Finset.mem_singleton] at hb
    exact hy (Proc.devRef_injective _ hb ▸ hr)

/-- The normalisation leaves the argument alone. -/
theorem mild_norm : ∀ op ∈ (opsNorm : List (HloOp τ sig (Elt F))), Mild [main_arg0] op := by
  unfold opsNorm
  repeat' first
    | exact List.forall_mem_nil _
    | refine List.forall_mem_cons.mpr ⟨?_, ?_⟩
    | with_reducible apply mild_binary
    | with_reducible apply mild_unary
    | with_reducible apply mild_nullary
    | decide +kernel
/-- The bounds leave the argument and the normalised matrices alone. -/
theorem mild_bounds : ∀ op ∈ (opsBounds : List (HloOp τ sig (Elt F))), Mild [main_arg0, main_v8, main_v15] op := by
  unfold opsBounds
  repeat' first
    | exact List.forall_mem_nil _
    | refine List.forall_mem_cons.mpr ⟨?_, ?_⟩
    | with_reducible apply mild_unary
    | with_reducible apply mild_nullary
    | decide +kernel
/-- The draw leaves the kept arrays alone. -/
theorem mild_draw : ∀ op ∈ (opsDraw0 ++ opsDraw1 : List (HloOp τ sig (Elt F))), Mild kept op := by
  simp only [List.cons_append, List.nil_append]
  repeat' first
    | exact List.forall_mem_nil _
    | refine List.forall_mem_cons.mpr ⟨?_, ?_⟩
    | with_reducible apply mild_binary
    | with_reducible apply mild_unary
    | with_reducible apply mild_nullary
    | with_reducible apply mild_ternary
    | decide +kernel
/-- The mask leaves the kept arrays alone. -/
theorem mild_mask : ∀ op ∈ (opsMask : List (HloOp τ sig (Elt F))), Mild kept op := by
  unfold opsMask
  repeat' first
    | exact List.forall_mem_nil _
    | refine List.forall_mem_cons.mpr ⟨?_, ?_⟩
    | with_reducible apply mild_binary
    | with_reducible apply mild_unary
    | with_reducible apply mild_nullary
    | with_reducible apply mild_ternary
    | decide +kernel
/-- The first criterion leaves the argument, the second matrix and the mask alone. -/
theorem mild_row : ∀ op ∈ (opsRow : List (HloOp τ sig (Elt F))), Mild [main_arg0, main_v15, main_v56] op := by
  unfold opsRow
  repeat' first
    | exact List.forall_mem_nil _
    | refine List.forall_mem_cons.mpr ⟨?_, ?_⟩
    | with_reducible apply mild_binary
    | with_reducible apply mild_unary
    | with_reducible apply mild_nullary
    | decide +kernel
/-- The second criterion leaves the argument alone. -/
theorem mild_col : ∀ op ∈ (opsCol : List (HloOp τ sig (Elt F))), Mild [main_arg0] op := by
  unfold opsCol
  repeat' first
    | exact List.forall_mem_nil _
    | refine List.forall_mem_cons.mpr ⟨?_, ?_⟩
    | with_reducible apply mild_binary
    | with_reducible apply mild_unary
    | with_reducible apply mild_nullary
    | decide +kernel

/-! ## The run -/

/-- The reference has no scoped arrays. -/
theorem scopedRefs_none : (Finset.univ.filter fun b : Ref sig .tc => b.isScoped) = ∅ := by decide +kernel
/-- The reference has no scoped counters. -/
theorem scopedSems_none : (Finset.univ.filter fun sm : SemLoc sig => sm.isScoped .tc) = ∅ := by decide +kernel

/-- An operation's mildness, for fewer arrays. -/
theorem Mild.fewer {W W' : List (Ref sig .tc)} {op : HloOp τ sig (Elt F)} (h : Mild W op) (hW : W' ⊆ W) : Mild W' op := by
  obtain ⟨h1, h2, y, hy, hw⟩ := h
  exact ⟨h1, h2, y, fun h => hy (hW h), hw⟩

/-- Every operation of the whole line leaves the argument alone. -/
theorem mild_line {mid mid' : List (HloOp τ sig (Elt F))} (hmid : ∀ op ∈ mid, Mild kept op) (hmid' : ∀ op ∈ mid', Mild kept op) :
    ∀ op ∈ opsNorm ++ (mid ++ (opsBounds ++ (mid' ++ opsAfter))), Mild [main_arg0] op := by
  have hk : [main_arg0] ⊆ kept := by simp [kept]
  intro op h
  rw [opsAfter] at h
  rcases List.mem_append.mp h with h | h
  · exact mild_norm op h
  rcases List.mem_append.mp h with h | h
  · exact (hmid op h).fewer hk
  rcases List.mem_append.mp h with h | h
  · exact (mild_bounds op h).fewer (by simp)
  rcases List.mem_append.mp h with h | h
  · exact (hmid' op h).fewer hk
  rcases List.mem_append.mp h with h | h
  · exact (mild_draw op h).fewer hk
  rcases List.mem_append.mp h with h | h
  · exact (mild_mask op h).fewer hk
  rcases List.mem_append.mp h with h | h
  · exact (mild_row op h).fewer (by simp)
  · exact mild_col op h

/-- What the whole line leaves in the result: the outcome, of some random bits. -/
theorem line_result {mid mid' : List (HloOp τ sig (Elt F))} (hmid : ∀ op ∈ mid, Mild kept op) (hmid' : ∀ op ∈ mid', Mild kept op) :
    ∃ b, after (opsNorm ++ (mid ++ (opsBounds ++ (mid' ++ opsAfter)))) V (Proc.devRef .tc main_v77) = outcome (V (Proc.devRef .tc main_arg0)) b := by
  refine ⟨after mid' (after opsBounds (after mid (after opsNorm V))) (Proc.devRef .tc main_call1_v20), ?_⟩
  rw [opsAfter, after_two, after_two, after_two, after_two, after_two, after_two, after_two, read_v77, read_v66,
    after_kept _ mild_row (r := main_v15) (by simp), after_kept _ mild_row (r := main_v56) (by simp), read_v56,
    after_kept _ mild_mask (r := main_v15) (by simp [kept]), after_kept _ mild_mask (r := main_v8) (by simp [kept]),
    read_v37, after_kept _ mild_draw (r := main_v15) (by simp [kept]), after_kept _ mild_draw (r := main_v8) (by simp [kept]),
    after_kept _ hmid' (r := main_v15) (by simp [kept]), after_kept _ hmid' (r := main_v8) (by simp [kept]),
    after_kept _ hmid' (r := main_call1_v2) (by simp [kept]), after_kept _ hmid' (r := main_call1_v3) (by simp [kept]), read_low, read_high,
    after_kept _ mild_bounds (r := main_v15) (by simp), after_kept _ mild_bounds (r := main_v8) (by simp),
    after_kept _ hmid (r := main_v15) (by simp [kept]), after_kept _ hmid (r := main_v8) (by simp [kept]), read_v8, read_v15]
  rfl

/-- The reference runs to its end; the argument is unchanged, every counter is zero, and the result is the outcome of some
random bits. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, (∃ b, r.2.mem ((c.tc : Thread nD τ).loc main_v77) = outcome (m ((c.tc : Thread nD τ).loc main_arg0)) b)
        ∧ r.2.mem ((c.tc : Thread nD τ).loc main_arg0) = m ((c.tc : Thread nD τ).loc main_arg0) := by
  choose mid mid' hmain hmid hmid' using fun d : Dev nD => main_line (F := F) d
  refine (θ_run defs _ _).mono (fun r h c => ⟨?_, (h c main_arg0).trans (after_kept _ (mild_line (hmid c) (hmid' c)) (by simp))⟩)
    (run_seq scopedRefs_none scopedSems_none defs main _ hmain
      (fun d => List.forall_iff_forall_mem.2 fun op ho => (mild_line (hmid d) (hmid' d) op ho).1) m ρ
      (fun d op ho => (mild_line (hmid d) (hmid' d) op ho).2.1))
  obtain ⟨b, hb⟩ := line_result (launchContents m c) (hmid c) (hmid' c)
  exact ⟨b, (h c main_v77).trans hb⟩

/-- The reference leaves its argument as it was, and every counter at zero. -/
theorem quiescent (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run m ρ)

end Cert.ReferenceIdeal.Line

end
-- ==== Proof.Terms.lean ====
module

public import Idealize.ShloMosaic.PureOps
public import Idealize.ShloMosaic.Lib.IdealHost
public import Mathlib.Analysis.SpecialFunctions.Pow.Real

/-! The mathematics both programs compute: the logarithm of one minus a normalised weight, summed off the diagonal. -/

@[expose] public section

noncomputable section

namespace Cert.Terms

open Idealize.ShloMosaic
open scoped BigOperators

/-! ## The constants -/

/-- The small constant, float32's nearest number to `1e-10`. -/
def eps : ℝ := 14411519 / 144115188075855872

/-- The small constant is positive. -/
theorem eps_pos : 0 < eps := by unfold eps; norm_num

/-- The small constant's word. -/
theorem word_eps : Ideal.ofBits .f32 786163455#32 = (eps : EReal) := by
  unfold eps
  simp [Ideal.ofBits, Ideal.ieee, -EReal.coe_mul]; norm_num

/-- The temperature, float32's nearest number to `0.1`. -/
def temp : ℝ := 13421773 / 134217728

/-- The temperature is positive. -/
theorem temp_pos : 0 < temp := by unfold temp; norm_num

/-- The temperature's word. -/
theorem word_temp : Ideal.ofBits .f32 1036831949#32 = (temp : EReal) := by
  unfold temp
  simp [Ideal.ofBits, Ideal.ieee, -EReal.coe_mul]; norm_num

/-- The number of rows. -/
theorem word_count : Ideal.ofBits .f32 1166016512#32 = ((4096 : ℝ) : EReal) := by
  simp [Ideal.ofBits, Ideal.ieee, -EReal.coe_mul]; norm_num

/-- Minus one over the number of rows. -/
theorem word_mean : Ideal.ofBits .f32 3112173568#32 = ((-(1 / 4096) : ℝ) : EReal) := by
  simp [Ideal.ofBits, Ideal.ieee, -EReal.coe_mul, -EReal.coe_neg]; norm_num

/-- A quotient of real numbers. -/
theorem div_real (a : ℝ) {b : ℝ} (h : b ≠ 0) : Ideal.div (a : EReal) (b : EReal) = ((a / b : ℝ) : EReal) := by
  rw [Ideal.div_coe h, ← EReal.coe_mul, mul_one_div]

/-! ## The weight of a score -/

/-- The exponential of a score over the temperature, as a real number. -/
def weight (x : EReal) : ℝ := (Ideal.exp (Ideal.div x (temp : EReal)) : EReal).toReal

/-- The weight of a real score. -/
theorem weight_coe (v : ℝ) : weight (v : EReal) = Real.exp (v / temp) := by
  unfold weight
  rw [div_real _ temp_pos.ne', Ideal.exp_coe, EReal.toReal_coe]

/-- The bottom score over the temperature is the bottom. -/
theorem bot_div_temp : Ideal.div (⊥ : EReal) (temp : EReal) = ⊥ := by
  rw [Ideal.div_coe temp_pos.ne', EReal.bot_mul_coe_of_pos (one_div_pos.mpr temp_pos)]

/-- The weight of the bottom score is zero. -/
theorem weight_bot : weight ⊥ = 0 := by
  unfold weight
  rw [bot_div_temp, Ideal.exp_bot, EReal.toReal_zero]

/-- A score below plus infinity has its weight as exponential. -/
theorem exp_weight {x : EReal} (h : x < ⊤) : (Ideal.exp (Ideal.div x (temp : EReal)) : EReal) = weight x := by
  induction x with
  | bot => rw [weight_bot, bot_div_temp, Ideal.exp_bot, EReal.coe_zero]
  | coe v => rw [weight_coe, div_real _ temp_pos.ne', Ideal.exp_coe]
  | top => exact absurd h (lt_irrefl _)

/-- The same exponential, to the base two. -/
theorem exp2_weight {x : EReal} (h : x < ⊤) :
    (Ideal.exp2 (x * (((134217728 / 13421773) * (Real.log 2)⁻¹ : ℝ) : EReal)) : EReal) = weight x := by
  have hl : 0 < Real.log 2 := Real.log_pos (by norm_num)
  induction x with
  | bot =>
    rw [weight_bot, EReal.bot_mul_coe_of_pos (by positivity), Ideal.exp2_bot, EReal.coe_zero]
  | coe v =>
    rw [weight_coe, ← EReal.coe_mul, Ideal.exp2_coe]
    congr 1
    show (2 : ℝ) ^ (v * ((134217728 / 13421773) * (Real.log 2)⁻¹)) = _
    rw [Real.rpow_def_of_pos (by norm_num)]
    congr 1
    unfold temp
    field_simp
  | top => exact absurd h (lt_irrefl _)

/-- Weights are not negative. -/
theorem weight_nonneg {x : EReal} (h : x < ⊤) : 0 ≤ weight x := by
  induction x with
  | bot => rw [weight_bot]
  | coe v => rw [weight_coe]; exact (Real.exp_pos _).le
  | top => exact absurd h (lt_irrefl _)

/-! ## One term -/

/-- The logarithm of one minus a weight over its total. -/
def term (e r : ℝ) : ℝ := Real.log (1 - e / r + eps)

/-- The logarithm's argument is positive. -/
theorem arg_pos {e r : ℝ} (her : e ≤ r) (hr : 0 < r) : 0 < 1 - e / r + eps := by
  have : e / r ≤ 1 := (div_le_one hr).mpr her
  have := eps_pos
  linarith

/-- A term as the reference writes it. -/
theorem term_plain {e r : ℝ} (her : e ≤ r) (hr : 0 < r) :
    (Ideal.log (1 - Ideal.div (e : EReal) (r : EReal) + (eps : EReal)) : EReal) = term e r := by
  rw [div_real _ hr.ne', ← EReal.coe_one, ← EReal.coe_sub, ← EReal.coe_add, Ideal.log_coe,
    if_neg (not_le.mpr (arg_pos her hr))]
  rfl

/-- A term as the kernel writes it. -/
theorem term_max {e r : ℝ} (her : e ≤ r) (hr : 0 < r) :
    (Ideal.log (max ((r : EReal) - (e : EReal)) 0 * Ideal.div 1 (r : EReal) + (eps : EReal)) : EReal) = term e r := by
  have h : (0 : EReal) ≤ ((r - e : ℝ) : EReal) := by exact_mod_cast sub_nonneg.mpr her
  have e1 : (r - e) * (1 / r) = 1 - e / r := by field_simp
  rw [← EReal.coe_one, div_real _ hr.ne', ← EReal.coe_sub, max_eq_left h, ← EReal.coe_mul, e1, ← EReal.coe_add, Ideal.log_coe,
    if_neg (not_le.mpr (arg_pos her hr))]
  rfl

/-! ## The sums -/

/-- A finite sum of real numbers among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {m n : ℕ}

/-- A row's total: the weights plus the small constant. -/
def rowTotal (w : Fin m → Fin n → ℝ) (i : Fin m) : ℝ := ∑ k, w i k + eps

/-- A row sum and the small constant are positive together. -/
theorem rowTotal_pos {w : Fin m → Fin n → ℝ} (h : ∀ i j, 0 ≤ w i j) (i : Fin m) : 0 < rowTotal w i :=
  add_pos_of_nonneg_of_pos (Finset.sum_nonneg fun k _ => h i k) eps_pos

/-- An entry is at most its row's total. -/
theorem le_rowTotal {w : Fin m → Fin n → ℝ} (h : ∀ i j, 0 ≤ w i j) (i : Fin m) (j : Fin n) : w i j ≤ rowTotal w i :=
  (Finset.single_le_sum (f := fun k => w i k) (fun k _ => h i k) (Finset.mem_univ j)).trans (le_add_of_nonneg_right eps_pos.le)

/-- The terms of all entries. -/
def full (w : Fin n → Fin n → ℝ) : ℝ := ∑ i, ∑ j, term (w i j) (rowTotal w i)

/-- The terms of the diagonal. -/
def diagonal (w : Fin n → Fin n → ℝ) : ℝ := ∑ i, term (w i i) (rowTotal w i)

/-- The loss: minus the mean over the rows of the off-diagonal terms, for the matrix and its transpose. -/
def loss (w : Fin n → Fin n → ℝ) (wt : Fin n → Fin n → ℝ) : ℝ := -(1 / 4096) * ((full w - diagonal w) + (full wt - diagonal wt))

/-- The sum under the off-diagonal mask is the full one less the diagonal. -/
theorem masked (w : Fin n → Fin n → ℝ) :
    ∑ i, ∑ j, term (w i j) (rowTotal w i) * (if i = j then (0 : ℝ) else 1) = full w - diagonal w := by
  unfold full diagonal
  rw [← Finset.sum_sub_distrib]
  refine Finset.sum_congr rfl fun i _ => ?_
  rw [eq_sub_iff_add_eq, ← Finset.sum_erase_add _ _ (Finset.mem_univ i), if_pos rfl, mul_zero, add_zero, ← Finset.sum_erase_add Finset.univ (fun j => term (w i j) (rowTotal w i)) (Finset.mem_univ i)]
  congr 1
  refine Finset.sum_congr rfl fun j hj => ?_
  rw [if_neg (Finset.ne_of_mem_erase hj).symm, mul_one]

end Cert.Terms

end
-- ==== Proof.KBlock.lean ====
module

public import proofs.«01_k».proof.Proof.KRuns
public import proofs.«01_k».proof.Proof.Terms
public import Idealize.ShloMosaic.Lib.Pointwise

/-! What one point of the kernel computes, in real numbers. -/

@[expose] public section

set_option maxRecDepth 16384

noncomputable section

namespace Cert.KernelIdeal.Body

open Idealize.ShloMosaic Idealize.SL.Sem
open Cert.KernelIdeal Cert.KernelIdeal.Gen Cert.Terms
open scoped BigOperators

/-! ## Reading -/

/-- A window of an array, at a position. -/
theorem window_at {α : Type} {s : Shape} (x : s.Idx → α) (off size : Fin s.rank → ℕ) (inb : ∀ a, off a + size a ≤ s.size a)
    (off' : Fin s.rank → ℕ) (ho : off = off')
    (y : (Rect.unit off size inb).shape.Idx) (z : s.Idx) (h : ∀ a, (z a).val = off' a + (y a).val) :
    VecWindow.window x off size inb y = x z := by
  subst ho
  unfold VecWindow.window
  congr 1
  funext a
  apply Fin.ext
  rw [h a]
  simp [Rect.unit, Rect.emb]

/-- The comparison of two small words. -/
theorem word_eq (i j : Fin 512) : IntOp.cmpi .eq (BitVec.ofNat 32 (i : ℕ)) (BitVec.ofNat 32 (j : ℕ)) = if i = j then 1#1 else 0#1 := by
  show BitVec.ofBool _ = _
  by_cases h : i = j
  · subst h; simp
  · have e : BitVec.ofNat 32 (i : ℕ) ≠ BitVec.ofNat 32 (j : ℕ) := fun e => h (Fin.ext (by
      have := congrArg BitVec.toNat e
      rw [BitVec.toNat_ofNat, BitVec.toNat_ofNat, Nat.mod_eq_of_lt (by have := i.2; omega), Nat.mod_eq_of_lt (by have := j.2; omega)] at this
      exact this))
    rw [if_neg h, beq_eq_false_iff_ne.mpr e]; rfl

/-- A sum over a square kept only on the diagonal is the sum over the diagonal. -/
theorem square_sum (g : Fin 512 → Fin 512 → EReal) :
    ∑ a : Fin 512, ∑ b : Fin 512, Scalar.select (IntOp.cmpi .eq (BitVec.ofNat 32 (a : ℕ)) (BitVec.ofNat 32 (b : ℕ))) (g a b) 0 = ∑ a, g a a := by
  refine Finset.sum_congr rfl fun a _ => ?_
  rw [Finset.sum_eq_single a]
  · rw [word_eq, if_pos rfl]; rfl
  · intro b _ hb
    rw [word_eq, if_neg (Ne.symm hb)]; rfl
  · intro h; exact absurd (Finset.mem_univ a) h

/-! ## The first sweep -/

/-- The scale of the scores. -/
theorem named_scale : (Named.named (F := Ideal) (φ := .f32) κ "log2e_over_tau" 1097258186#32 : EReal)
    = (((134217728 / 13421773) * (Real.log 2)⁻¹ : ℝ) : EReal) := rfl

/-- The exponential of a scaled score is its weight. -/
theorem scaled_exp {v : EReal} (h : v < ⊤) :
    (FloatOps.exp2 (F := Ideal) (φ := .f32) (v * Named.named (F := Ideal) (φ := .f32) κ "log2e_over_tau" 1097258186#32) : EReal) = weight v := by
  rw [named_scale]; exact exp2_weight h

/-- A block's exponentials are its scores' weights. -/
theorem pay5_at {x : Vec Ideal S512x4096 .f32} (h : ∀ q, x q < ⊤) (p : Fin 512) (j : Fin 4096) :
    k0_pay5 (F := Ideal) x (ix2 p j) = (weight (x (ix2 p j)) : EReal) := by
  refine Eq.trans ?_ (scaled_exp (h _))
  pointwise [k0_pay5]

/-- The exponential as it is cached: the weight of the score there. -/
theorem pay6_at {x : Vec Ideal S512x4096 .f32} (h : ∀ q, x q < ⊤) (p : Fin 512) (j : Fin 4096) :
    k0_pay6 (F := Ideal) x (ix2 p j) = (weight (x (ix2 p j)) : EReal) := by
  refine Eq.trans ?_ (pay5_at h p j)
  pointwise [k0_pay6]

/-- What a block stores in the cache. -/
theorem pay7_at {x : Vec Ideal S512x4096 .f32} (h : ∀ q, x q < ⊤) (p : Fin 512) (j : Fin 4096) :
    k0_pay7 (F := Ideal) x (ix2 p j) = (weight (x (ix2 p j)) : EReal) := by
  refine Eq.trans ?_ (pay6_at h p j)
  pointwise [k0_pay7]

/-- The weights of a block. -/
def blockW (x : Vec Ideal S512x4096 .f32) (p : Fin 512) (j : Fin 4096) : ℝ := weight (x (ix2 p j))

/-- A block's row totals. -/
theorem pay8_at {x : Vec Ideal S512x4096 .f32} (h : ∀ q, x q < ⊤) (p : Fin 512) :
    k0_pay8 (F := Ideal) x (ix2 p 0) = (rowTotal (blockW x) p : EReal) := by
  refine Eq.trans (b := ∑ k, k0_pay5 (F := Ideal) x (ix2 p k) + Ideal.ofBits .f32 786163455#32) ?_ ?_
  · pointwise [k0_pay8]
  · rw [word_eps, Finset.sum_congr rfl fun k _ => pay5_at h p k, coe_sum, ← EReal.coe_add]; rfl

/-- A block's share of the column sums. -/
theorem pay9_at {x : Vec Ideal S512x4096 .f32} (h : ∀ q, x q < ⊤) (j : Fin 4096) :
    k0_pay9 (F := Ideal) x (ix2 0 j) = ((∑ p, blockW x p j : ℝ) : EReal) := by
  refine Eq.trans (b := ∑ p, k0_pay6 (F := Ideal) x (ix2 p j)) ?_ ?_
  · pointwise [k0_pay9]
  · rw [Finset.sum_congr rfl fun p _ => pay6_at h p j, coe_sum]; rfl

/-- The column sums after the first block. -/
theorem pay10_at {x : Vec Ideal S512x4096 .f32} (h : ∀ q, x q < ⊤) (j : Fin 4096) :
    k0_pay10 (F := Ideal) x (ix2 0 j) = ((∑ p, blockW x p j : ℝ) : EReal) := by
  refine Eq.trans ?_ (pay9_at h j)
  pointwise [k0_pay10]

/-- The column sums after a later block. -/
theorem pay11_at {x : Vec Ideal S512x4096 .f32} (h : ∀ q, x q < ⊤) (s : Vec Ideal S1x4096 .f32) (j : Fin 4096) :
    k0_pay11 (F := Ideal) x s (ix2 0 j) = s (ix2 0 j) + ((∑ p, blockW x p j : ℝ) : EReal) := by
  rw [← pay9_at h j]
  pointwise [k0_pay11]

/-- One over a row's total. -/
theorem pay12_at {x : Vec Ideal S512x4096 .f32} (h : ∀ q, x q < ⊤) (p : Fin 512) :
    k0_pay12 (F := Ideal) x (ix2 p 0) = Ideal.div 1 (rowTotal (blockW x) p : EReal) := by
  rw [← pay8_at h p]
  pointwise [k0_pay12]

/-- A block's weights are at least zero. -/
theorem blockW_nonneg {x : Vec Ideal S512x4096 .f32} (h : ∀ q, x q < ⊤) (p : Fin 512) (j : Fin 4096) : 0 ≤ blockW x p j := weight_nonneg (h _)

/-- The terms of a whole block. -/
theorem pay13_at {x : Vec Ideal S512x4096 .f32} (h : ∀ q, x q < ⊤) (q) :
    k0_pay13 (F := Ideal) x q = ((∑ j, ∑ p, term (blockW x p j) (rowTotal (blockW x) p) : ℝ) : EReal) := by
  refine Eq.trans (b := ∑ _ : Fin 1, ∑ j, ∑ p, Ideal.log (max (k0_pay8 (F := Ideal) x (ix2 p 0) - k0_pay5 (F := Ideal) x (ix2 p j)) 0
    * k0_pay12 (F := Ideal) x (ix2 p 0) + Ideal.ofBits .f32 786163455#32)) ?_ ?_
  · pointwise [k0_pay13]
  · have ht : ∀ (j : Fin 4096) (p : Fin 512), Ideal.log (max (k0_pay8 (F := Ideal) x (ix2 p 0) - k0_pay5 (F := Ideal) x (ix2 p j)) 0
        * k0_pay12 (F := Ideal) x (ix2 p 0) + Ideal.ofBits .f32 786163455#32) = ((term (blockW x p j) (rowTotal (blockW x) p) : ℝ) : EReal) := fun j p => by
      rw [word_eps, pay8_at h, pay12_at h, pay5_at h]
      exact term_max (le_rowTotal (blockW_nonneg h) p j) (rowTotal_pos (blockW_nonneg h) p)
    rw [Fin.sum_univ_one, Finset.sum_congr rfl fun j _ => Finset.sum_congr rfl fun p _ => ht j p, Finset.sum_congr rfl fun j _ => coe_sum _ _, coe_sum]

/-- Whole terms less those of the square's diagonal, at a block of rows. -/
theorem pay1_at (a b : Vec Ideal S512x1 .f32) (c : Vec Ideal S1x1x1 .f32) (w : Vec Ideal S512x512 .f32) :
    k0_pay1 (F := Ideal) a b c w = c (ix3 0 0 0) - ∑ p : Fin 512, Ideal.log (max (a (ix2 p 0)
      - FloatOps.exp2 (F := Ideal) (φ := .f32) (w (ix2 p p) * Named.named (F := Ideal) (φ := .f32) κ "log2e_over_tau" 1097258186#32)) 0
        * b (ix2 p 0) + Ideal.ofBits .f32 786163455#32) := by
  refine Eq.trans ?_ (congrArg (fun z => c (ix3 0 0 0) - z) (square_sum fun p p' => Ideal.log (max (a (ix2 p 0)
      - FloatOps.exp2 (F := Ideal) (φ := .f32) (w (ix2 p p') * Named.named (F := Ideal) (φ := .f32) κ "log2e_over_tau" 1097258186#32)) 0
        * b (ix2 p 0) + Ideal.ofBits .f32 786163455#32)))
  pointwise [k0_pay1]

/-- The column of a block's diagonal square. -/
def at8 (k : Fin 8) (p : Fin 512) : Fin 4096 := ⟨512 * k + p, by omega⟩

/-- One point of the first sweep adds its rows' terms less the diagonal's. -/
theorem rowShare_real {x : Vec Ideal S512x4096 .f32} (h : ∀ q, x q < ⊤) (i : grid0.Coords) (hc : k0_cond1 i = 1#1) (k : Fin 8)
    (ho : k0_off2 i = ![0, 512 * (k : ℕ)]) :
    rowShare (F := Ideal) i hc x = ((∑ j, ∑ p, term (blockW x p j) (rowTotal (blockW x) p)
      - ∑ p, term (blockW x p (at8 k p)) (rowTotal (blockW x) p) : ℝ) : EReal) := by
  unfold rowShare
  rw [pay1_at, pay13_at h]
  have ht : ∀ p : Fin 512, Ideal.log (max (k0_pay8 (F := Ideal) x (ix2 p 0)
      - FloatOps.exp2 (F := Ideal) (φ := .f32) (VecWindow.window x (k0_off2 i) ![512, 512] (k0_off2_inb i hc) (ix2 p p) * Named.named (F := Ideal) (φ := .f32) κ "log2e_over_tau" 1097258186#32)) 0
        * k0_pay12 (F := Ideal) x (ix2 p 0) + Ideal.ofBits .f32 786163455#32) = ((term (blockW x p (at8 k p)) (rowTotal (blockW x) p) : ℝ) : EReal) := fun p => by
    have hw : VecWindow.window x (k0_off2 i) ![512, 512] (k0_off2_inb i hc) (ix2 p p) = x (ix2 p (at8 k p)) := by
      refine window_at _ _ _ _ _ ho _ _ fun a => ?_
      match a with
      | ⟨0, _⟩ => exact (Nat.zero_add _).symm
      | ⟨1, _⟩ => rfl
    rw [word_eps, pay8_at h, pay12_at h, hw, scaled_exp (h _)]
    exact term_max (le_rowTotal (blockW_nonneg h) p _) (rowTotal_pos (blockW_nonneg h) p)
  refine Eq.trans (congrArg _ (Finset.sum_congr rfl fun p _ => ht p)) ?_
  rw [coe_sum, ← EReal.coe_sub]

/-! ## The second sweep -/

/-- The terms of a whole block of the cache. -/
theorem pay14_at (a : Vec Ideal S512x4096 .bf16) (b : Vec Ideal S1x4096 .f32) :
    k0_pay14 (F := Ideal) a b = ∑ _ : Fin 1, ∑ j, ∑ p, Ideal.log (max (b (ix2 0 j) + Ideal.ofBits .f32 786163455#32 - a (ix2 p j)) 0
      * Ideal.div 1 (b (ix2 0 j) + Ideal.ofBits .f32 786163455#32) + Ideal.ofBits .f32 786163455#32) := by
  pointwise [k0_pay14]

/-- The column totals less the cached weights, on a square. -/
theorem pay16_at (a : Vec Ideal S512x512 .bf16) (b : Vec Ideal S1x512 .f32) (p p' : Fin 512) :
    k0_pay16 (F := Ideal) a b (ix2 p p') = max (b (ix2 0 p') + Ideal.ofBits .f32 786163455#32 - a (ix2 p p')) 0 := by
  pointwise [k0_pay16, k0_pay15]

/-- One over the column totals, on a square. -/
theorem pay17_at (b : Vec Ideal S1x512 .f32) (p p' : Fin 512) :
    k0_pay17 (F := Ideal) b (ix2 p p') = Ideal.div 1 (b (ix2 0 p') + Ideal.ofBits .f32 786163455#32) := by
  pointwise [k0_pay17, k0_pay15]

/-- The running total, and whole terms less those of the square's diagonal. -/
theorem pay3_at (a : EReal) (b c : Vec Ideal S512x512 .f32) (d : EReal) :
    k0_pay3 (F := Ideal) a b c d = d + (a - ∑ p : Fin 512, Ideal.log (b (ix2 p p) * c (ix2 p p) + Ideal.ofBits .f32 786163455#32)) := by
  refine Eq.trans ?_ (congrArg (fun z => d + (a - z)) (square_sum fun p p' => Ideal.log (b (ix2 p p') * c (ix2 p p') + Ideal.ofBits .f32 786163455#32)))
  pointwise [k0_pay3]

/-- The last point's scaling. -/
theorem pay4_at (a : EReal) : k0_pay4 (F := Ideal) a = a * ((-(1 / 4096) : ℝ) : EReal) := by
  rw [← word_mean]
  pointwise [k0_pay4]

/-- One point of the second sweep adds its rows' terms against the column totals, less the diagonal's. -/
theorem colShare_real {eb : Vec Ideal S4096x4096 .bf16} {cs : Vec Ideal S1x4096 .f32} {w v : Fin 4096 → Fin 4096 → ℝ} (hv : ∀ i j, v j i = w i j)
    (hw : ∀ i j, 0 ≤ w i j) (he : ∀ i j, eb (ix2 i j) = (w i j : EReal)) (hs : ∀ j, cs (ix2 0 j) = ((∑ i, w i j : ℝ) : EReal))
    (i : grid0.Coords) (hc : k0_cond6 i = 1#1) (k : Fin 8) (h3 : k0_off3 i = ![512 * (k : ℕ), 0])
    (h4 : k0_off4 i = ![512 * (k : ℕ), 512 * (k : ℕ)]) (h5 : k0_off5 i = ![0, 512 * (k : ℕ)]) (d : EReal) :
    colShare (F := Ideal) i hc eb cs d = d + ((∑ j, ∑ p, term (v j (at8 k p)) (rowTotal v j)
      - ∑ p, term (v (at8 k p) (at8 k p)) (rowTotal v (at8 k p)) : ℝ) : EReal) := by
  have hv0 : ∀ j i, 0 ≤ v j i := fun j i => by rw [hv]; exact hw i j
  have htot : ∀ j, cs (ix2 0 j) + Ideal.ofBits .f32 786163455#32 = (rowTotal v j : EReal) := fun j => by
    rw [word_eps, hs, ← EReal.coe_add]
    unfold rowTotal
    rw [Finset.sum_congr rfl fun i _ => hv i j]
  have w3 : ∀ (p : Fin 512) (j : Fin 4096), VecWindow.window eb (k0_off3 i) S512x4096.size (k0_off3_inb i hc) (ix2 p j) = (v j (at8 k p) : EReal) := fun p j => by
    rw [hv, ← he]
    refine window_at _ _ _ _ _ h3 _ _ fun a => ?_
    match a with
    | ⟨0, _⟩ => rfl
    | ⟨1, _⟩ => exact (Nat.zero_add _).symm
  have w4 : ∀ p p' : Fin 512, VecWindow.window eb (k0_off4 i) S512x512.size (k0_off4_inb i hc) (ix2 p p') = (v (at8 k p') (at8 k p) : EReal) := fun p p' => by
    rw [hv, ← he]
    refine window_at _ _ _ _ _ h4 _ _ fun a => ?_
    match a with
    | ⟨0, _⟩ => rfl
    | ⟨1, _⟩ => rfl
  have w5 : ∀ p : Fin 512, VecWindow.window cs (k0_off5 i) S1x512.size (k0_off5_inb i hc) (ix2 0 p) = cs (ix2 0 (at8 k p)) := fun p => by
    refine window_at _ _ _ _ _ h5 _ _ fun a => ?_
    match a with
    | ⟨0, _⟩ => rfl
    | ⟨1, _⟩ => rfl
  unfold colShare
  rw [pay3_at, pay14_at, Fin.sum_univ_one]
  congr 1
  rw [EReal.coe_sub]
  congr 1
  · rw [← coe_sum]
    refine Finset.sum_congr rfl fun j _ => ?_
    rw [← coe_sum]
    refine Finset.sum_congr rfl fun p _ => ?_
    rw [w3, htot, word_eps]
    exact term_max (le_rowTotal hv0 j _) (rowTotal_pos hv0 j)
  · rw [← coe_sum]
    refine Finset.sum_congr rfl fun p _ => ?_
    rw [pay16_at, pay17_at, w4, w5, htot, word_eps]
    exact term_max (le_rowTotal hv0 _ _) (rowTotal_pos hv0 _)

end Cert.KernelIdeal.Body

end
-- ==== Proof.KValue.lean ====
module

public import proofs.«01_k».proof.Proof.KOut
public import proofs.«01_k».proof.Proof.KBlock
public import Mathlib.Logic.Equiv.Fin.Basic

/-! The kernel's result in real numbers: the off-diagonal loss of the scores' weights. -/

@[expose] public section

set_option maxRecDepth 16384

noncomputable section

namespace Cert.KernelIdeal.Body

open Idealize.ShloMosaic Idealize.ShloMosaic.TcCoe Idealize.SL.Sem
open Cert.KernelIdeal Cert.KernelIdeal.Gen Cert.Terms
open scoped BigOperators

/-! ## Sums by blocks -/

/-- A sum over the rows, block by block. -/
theorem sum_at8 (f : Fin 4096 → ℝ) : ∑ k, ∑ p, f (at8 k p) = ∑ i, f i := by
  rw [← Fintype.sum_prod_type' (fun k p => f (at8 k p))]
  refine Fintype.sum_equiv (finProdFinEquiv (m := 8) (n := 512)) _ _ fun q => congrArg f (Fin.ext ?_)
  show 512 * (q.1 : ℕ) + (q.2 : ℕ) = (q.2 : ℕ) + 512 * (q.1 : ℕ)
  omega

/-- Eight running sums from the first. -/
theorem running_first (f : Fin 8 → ℝ) (s : ∀ n, n < 8 → EReal) (h0 : s 0 (by decide) = (f 0 : EReal))
    (hs : ∀ n (h : n + 1 < 8), s (n + 1) h = s n (Nat.lt_of_succ_lt h) + (f ⟨n + 1, h⟩ : EReal)) :
    s 7 (by decide) = ((∑ k, f k : ℝ) : EReal) := by
  rw [Fin.sum_univ_eight, hs 6, hs 5, hs 4, hs 3, hs 2, hs 1, hs 0, h0]
  push_cast
  rfl

/-- Eight running sums on top of a value. -/
theorem running_on (f : Fin 8 → ℝ) (a : EReal) (s : ∀ n, n < 8 → EReal) (h0 : s 0 (by decide) = a)
    (hs : ∀ n (h : n + 1 < 8), s (n + 1) h = s n (Nat.lt_of_succ_lt h) + (f ⟨n, Nat.lt_of_succ_lt h⟩ : EReal)) :
    s 7 (by decide) + (f 7 : EReal) = a + ((∑ k, f k : ℝ) : EReal) := by
  rw [Fin.sum_univ_eight, hs 6, hs 5, hs 4, hs 3, hs 2, hs 1, hs 0, h0]
  push_cast
  simp only [add_assoc]

variable (m : (ℓ : Loc nD τ sig) → Buf (Elt Ideal) ℓ) (c : Dev nD)

/-! ## The blocks of the scores -/

/-- The scores. -/
abbrev scores : Vec Ideal S4096x4096 .f32 := m ((c : Thread nD τ).loc main_arg0)

/-- The weights of the scores, -/
def wts (i j : Fin 4096) : ℝ := weight (scores m c (ix2 i j))

/-- and of the transposed scores. -/
def wtsT (i j : Fin 4096) : ℝ := weight (scores m c (ix2 j i))

/-- The point of the first sweep at a block. -/
abbrev pt (k : Fin 8) : Fin cfg0.N := ⟨k, lt_N (by omega)⟩

/-- The block of the input that a point of the first sweep reads. -/
theorem index_first : ∀ t : Fin cfg0.N, t.val < 8 → win0_0.index t 0 = t.val ∧ win0_0.index t 1 = 0 :=
  (by decide +kernel : ∀ t : Fin grid0.N, t.val < 8 → win0_0.index t 0 = t.val ∧ win0_0.index t 1 = 0)

/-- A block's row is a row of the scores. -/
theorem xblk_at (k : Fin 8) (p : Fin 512) (j : Fin 4096) : xblk m c (pt k) (ix2 p j) = scores m c (ix2 (at8 k p) j) := by
  obtain ⟨h0, h1⟩ := index_first (pt k) k.2
  unfold xblk iblk
  rw [View.read_apply]
  show V m c main_arg0 _ = m ((c : Thread nD τ).loc main_arg0) _
  unfold V
  congr 1
  funext a
  apply Fin.ext
  match a with
  | ⟨0, _⟩ => show win0_0.index (pt k) 0 * 512 + 1 * (p : ℕ) = 512 * (k : ℕ) + (p : ℕ); rw [h0]; show (k : ℕ) * 512 + _ = _; omega
  | ⟨1, _⟩ => show win0_0.index (pt k) 1 * 4096 + 1 * (j : ℕ) = (j : ℕ); rw [h1]; omega

variable {m c} (hx : ∀ q, scores m c q < ⊤)
include hx

/-- Every score of a block is below plus infinity. -/
theorem xblk_lt (k : Fin 8) (q : S512x4096.Idx) : xblk m c (pt k) q < ⊤ := by
  rw [eq_ix2 q]
  exact lt_of_eq_of_lt (xblk_at m c k (q 0) (q 1)) (hx _)

omit hx in
/-- The weights of a block. -/
theorem blockW_at (k : Fin 8) (p : Fin 512) (j : Fin 4096) : blockW (xblk m c (pt k)) p j = wts m c (at8 k p) j :=
  congrArg weight (xblk_at m c k p j)

omit hx in
/-- The row totals of a block. -/
theorem rowTotal_at (k : Fin 8) (p : Fin 512) : rowTotal (blockW (xblk m c (pt k))) p = rowTotal (wts m c) (at8 k p) := by
  unfold rowTotal
  rw [Finset.sum_congr rfl fun j _ => blockW_at k p j]

/-- The cache holds the weights. -/
theorem cache_at (i j : Fin 4096) : cache m c (ix2 i j) = (wts m c i j : EReal) := by
  have hk : (i : ℕ) / 512 < 8 := by have := i.2; omega
  have e : at8 ⟨(i : ℕ) / 512, hk⟩ ⟨(i : ℕ) % 512, Nat.mod_lt _ (by decide)⟩ = i := Fin.ext (Nat.div_add_mod _ _)
  have h1 := pay7_at (xblk_lt hx ⟨(i : ℕ) / 512, hk⟩) ⟨(i : ℕ) % 512, Nat.mod_lt _ (by decide)⟩ j
  rw [xblk_at, e] at h1
  refine Eq.trans ?_ h1
  unfold cache
  refine congrArg (k0_pay7 (F := Ideal) (xblk m c (pt ⟨(i : ℕ) / 512, hk⟩))) (funext fun a => ?_)
  match a with
  | ⟨0, _⟩ => rfl
  | ⟨1, _⟩ => rfl

/-! ## The first sweep -/

omit hx in
variable (m c) in
/-- What a block adds in the first sweep. -/
def firstShare (k : Fin 8) : ℝ :=
  ∑ j, ∑ p, term (wts m c (at8 k p) j) (rowTotal (wts m c) (at8 k p)) - ∑ p, term (wts m c (at8 k p) (at8 k p)) (rowTotal (wts m c) (at8 k p))

/-- What a block adds in the first sweep is that. -/
theorem first_share (k : Fin 8) (hc : k0_cond1 (grid0.coords (pt k)) = 1#1) :
    rowShare (F := Ideal) (grid0.coords (pt k)) hc (xblk m c (pt k)) = (firstShare m c k : EReal) := by
  rw [rowShare_real (xblk_lt hx k) _ hc k (by rw [off2_eq]; show ![0, 512 * ((k : ℕ) % 8)] = _; rw [Nat.mod_eq_of_lt k.2])]
  unfold firstShare
  simp only [blockW_at, rowTotal_at]

omit hx in
/-- The steps of the first sweep. -/
theorem held_first (n : ℕ) (h : n + 1 < 8) (hc : k0_cond1 (grid0.coords (pt ⟨n + 1, h⟩)) = 1#1) :
    held m c (n + 1) (lt_N (by omega)) = (fun y => Scalar.addf ((held m c n (lt_N (by omega))).1 y)
      (rowShare (grid0.coords (pt ⟨n + 1, h⟩)) hc (xblk m c (pt ⟨n + 1, h⟩))), k0_pay11 (xblk m c (pt ⟨n + 1, h⟩)) (held m c n (lt_N (by omega))).2) :=
  held_B m c (pt ⟨n + 1, h⟩) (Nat.succ_ne_zero n) h hc

/-- The total after the first sweep. -/
theorem first_total : (held m c 7 (lt_N (by decide))).1 origin = ((∑ k, firstShare m c k : ℝ) : EReal) := by
  refine running_first (firstShare m c) (fun n h => (held m c n (lt_N (by omega))).1 origin) ?_ fun n h => ?_
  · exact first_share hx 0 ((cond1_iff _).mpr (by decide))
  · have hc : k0_cond1 (grid0.coords (pt ⟨n + 1, h⟩)) = 1#1 := (cond1_iff _).mpr h
    show (held m c (n + 1) _).1 origin = (held m c n _).1 origin + _
    rw [held_first n h hc, ← first_share hx ⟨n + 1, h⟩ hc]
    rfl

/-- The column sums after the first sweep. -/
theorem first_columns (j : Fin 4096) : (held m c 7 (lt_N (by decide))).2 (ix2 0 j) = ((∑ i, wts m c i j : ℝ) : EReal) := by
  rw [← sum_at8]
  refine running_first (fun k => ∑ p, wts m c (at8 k p) j) (fun n h => (held m c n (lt_N (by omega))).2 (ix2 0 j)) ?_ fun n h => ?_
  · have h := pay10_at (xblk_lt hx 0) j
    simp only [blockW_at] at h
    exact h
  · have hc : k0_cond1 (grid0.coords (pt ⟨n + 1, h⟩)) = 1#1 := (cond1_iff _).mpr h
    show (held m c (n + 1) _).2 (ix2 0 j) = (held m c n _).2 (ix2 0 j) + _
    rw [held_first n h hc]
    have h2 := pay11_at (xblk_lt hx ⟨n + 1, h⟩) (held m c n (lt_N (by omega))).2 j
    simp only [blockW_at] at h2
    exact h2

/-! ## The second sweep -/

omit hx in
variable (m c) in
/-- What a block adds in the second sweep. -/
def secondShare (k : Fin 8) : ℝ :=
  ∑ j, ∑ p, term (wtsT m c j (at8 k p)) (rowTotal (wtsT m c) j) - ∑ p, term (wtsT m c (at8 k p) (at8 k p)) (rowTotal (wtsT m c) (at8 k p))

omit hx in
variable (m c) in
/-- The point of the second sweep at a block. -/
abbrev pt2 (k : ℕ) (h : k < 8) : Fin cfg0.N := ⟨7 + k + 1, lt_N (by omega)⟩

omit hx in
/-- The steps of the second sweep but the last. -/
theorem held_second (k : ℕ) (h : k + 1 < 8) (hc : k0_cond6 (grid0.coords (pt2 k (Nat.lt_of_succ_lt h))) = 1#1) :
    held m c (7 + k + 1) (lt_N (by omega)) = (fun y => colShare (grid0.coords (pt2 k (Nat.lt_of_succ_lt h))) hc (cache m c)
      (held m c (7 + k) (lt_N (by omega))).2 ((held m c (7 + k) (lt_N (by omega))).1 y), (held m c (7 + k) (lt_N (by omega))).2) :=
  held_C m c (pt2 k (Nat.lt_of_succ_lt h)) (by show 8 ≤ 7 + k + 1; omega) (by show ¬ (7 + k + 1) % 8 = 7; omega) hc

omit hx in
/-- The column sums stay. -/
theorem second_columns (k : ℕ) (h : k < 8) : (held m c (7 + k) (lt_N (by omega))).2 = (held m c 7 (lt_N (by decide))).2 := by
  induction k with
  | zero => rfl
  | succ k ih =>
    have hc : k0_cond6 (grid0.coords (pt2 k (Nat.lt_of_succ_lt h))) = 1#1 := (cond6_iff _).mpr (by show 8 ≤ 7 + k + 1; omega)
    exact (congrArg Prod.snd (held_second k h hc)).trans (ih (Nat.lt_of_succ_lt h))

/-- What a block adds in the second sweep is that. -/
theorem second_share (k : ℕ) (h : k < 8) (hc : k0_cond6 (grid0.coords (pt2 k h)) = 1#1) (d : EReal) :
    colShare (F := Ideal) (grid0.coords (pt2 k h)) hc (cache m c) (held m c (7 + k) (lt_N (by omega))).2 d = d + (secondShare m c ⟨k, h⟩ : EReal) := by
  have hk : (7 + k + 1) % 8 = k := by omega
  exact colShare_real (w := wts m c) (v := wtsT m c) (fun _ _ => rfl) (fun i j => weight_nonneg (hx _)) (cache_at hx)
    (fun j => by rw [second_columns k h]; exact first_columns hx j) _ hc ⟨k, h⟩
    (by rw [off3_eq]; show ![512 * ((7 + k + 1) % 8), 0] = _; rw [hk])
    (by rw [off4_eq]; show ![512 * ((7 + k + 1) % 8), 512 * ((7 + k + 1) % 8)] = _; rw [hk])
    (by rw [off5_eq]; show ![0, 512 * ((7 + k + 1) % 8)] = _; rw [hk]) d

/-- The total at the end: both sweeps' shares, scaled. -/
theorem total_shares : total m c = (((∑ k, firstShare m c k : ℝ) : EReal) + ((∑ k, secondShare m c k : ℝ) : EReal)) * ((-(1 / 4096) : ℝ) : EReal) := by
  have hlast : k0_cond6 (grid0.coords (pt2 7 (by decide))) = 1#1 := (cond6_iff _).mpr (by show 8 ≤ 7 + 7 + 1; omega)
  have h15 : total m c = k0_pay4 (F := Ideal) (colShare (F := Ideal) (grid0.coords (pt2 7 (by decide))) hlast (cache m c)
      (held m c (7 + 7) (lt_N (by omega))).2 ((held m c (7 + 7) (lt_N (by omega))).1 origin)) :=
    congrFun (congrArg Prod.fst (held_D m c (pt2 7 (by decide)) (by show 8 ≤ 7 + 7 + 1; omega) (by show (7 + 7 + 1) % 8 = 7; omega) hlast)) origin
  rw [h15, pay4_at, second_share hx 7 (by decide) hlast]
  congr 1
  refine running_on (secondShare m c) _ (fun k h => (held m c (7 + k) (lt_N (by omega))).1 origin) (first_total hx) fun k h => ?_
  have hc : k0_cond6 (grid0.coords (pt2 k (Nat.lt_of_succ_lt h))) = 1#1 := (cond6_iff _).mpr (by show 8 ≤ 7 + k + 1; omega)
  refine Eq.trans ?_ (second_share hx k (Nat.lt_of_succ_lt h) hc _)
  exact congrFun (congrArg Prod.fst (held_second k h hc)) origin

/-! ## The loss -/

omit hx in
/-- The terms of a whole matrix by blocks of rows. -/
theorem full_blocks (w : Fin 4096 → Fin 4096 → ℝ) : ∑ k, ∑ j, ∑ p, term (w (at8 k p) j) (rowTotal w (at8 k p)) = full w :=
  (Finset.sum_congr rfl fun _ _ => Finset.sum_comm).trans (sum_at8 fun i => ∑ j, term (w i j) (rowTotal w i))

omit hx in
/-- The terms of a whole matrix by blocks of columns. -/
theorem full_blocksT (w : Fin 4096 → Fin 4096 → ℝ) : ∑ k, ∑ j, ∑ p, term (w j (at8 k p)) (rowTotal w j) = full w :=
  Finset.sum_comm.trans (Finset.sum_congr rfl fun j _ => sum_at8 fun i => term (w j i) (rowTotal w j))

omit hx in
/-- The terms of the diagonal by blocks. -/
theorem diagonal_blocks (w : Fin 4096 → Fin 4096 → ℝ) : ∑ k, ∑ p, term (w (at8 k p) (at8 k p)) (rowTotal w (at8 k p)) = diagonal w :=
  sum_at8 fun i => term (w i i) (rowTotal w i)

omit hx in
/-- The first sweep's shares make the terms off the diagonal. -/
theorem first_full : ∑ k, firstShare m c k = full (wts m c) - diagonal (wts m c) := by
  unfold firstShare
  rw [Finset.sum_sub_distrib, full_blocks, diagonal_blocks]

omit hx in
/-- The second sweep's shares make the transpose's terms off the diagonal. -/
theorem second_full : ∑ k, secondShare m c k = full (wtsT m c) - diagonal (wtsT m c) := by
  unfold secondShare
  rw [Finset.sum_sub_distrib, full_blocksT, diagonal_blocks]

/-- The kernel's result is the loss of the weights. -/
theorem total_real : total m c = (loss (wts m c) (wtsT m c) : EReal) := by
  rw [total_shares hx, first_full, second_full, ← EReal.coe_add, ← EReal.coe_mul]
  unfold loss
  congr 1
  ring

end Cert.KernelIdeal.Body

end
-- ==== Proof.RRow.lean ====
module

public import proofs.«01_k».proof.Proof.RRead
public import Idealize.ShloMosaic.Lib.Pointwise
public import Idealize.ShloMosaic.Lib.IdealHost
public import Idealize.ShloMosaic.Lib.SortFacts

/-! The reference's rows: with the diagonal lowered, the last position of each sorted row is the diagonal. -/

@[expose] public section

set_option maxRecDepth 16384

noncomputable section

namespace Cert.ReferenceIdeal.Line

open Idealize.ShloMosaic Idealize.SL.Sem
open Cert.ReferenceIdeal Facts₀ Facts

/-! ## The diagonal -/

/-- A number below 4096 is its own 32-bit word. -/
theorem word_toNat (i : Fin 4096) : (BitVec.ofNat 32 (i : ℕ)).toNat = i := by
  rw [BitVec.toNat_ofNat]; exact Nat.mod_eq_of_lt (by have := i.2; omega)

/-- Two such words are equal exactly when the numbers are. -/
theorem word_inj {i j : Fin 4096} : BitVec.ofNat 32 (i : ℕ) = BitVec.ofNat 32 (j : ℕ) ↔ i = j := by
  refine ⟨fun h => Fin.ext ?_, fun h => by rw [h]⟩
  rw [← word_toNat i, ← word_toNat j, h]

/-- The comparison of two such words. -/
theorem word_eq (i j : Fin 4096) : IntOp.cmpi .eq (BitVec.ofNat 32 (i : ℕ)) (BitVec.ofNat 32 (j : ℕ)) = if i = j then 1#1 else 0#1 := by
  show BitVec.ofBool _ = _
  by_cases h : i = j
  · subst h; simp
  · rw [if_neg h, beq_eq_false_iff_ne.mpr fun e => h (word_inj.mp e)]; rfl

/-- A bit, read as a number, is above zero exactly when it is one. -/
theorem bit_above (v : BitVec 1) : FloatOps.cmpf (F := Ideal) .ogt (FloatOps.uitofp .f32 v) (FloatOps.ofBits .f32 0x00000000#32) = v := by
  show BitVec.ofBool (decide (Ideal.ofBits .f32 0x00000000#32 < ((v.toNat : ℝ) : EReal))) = v
  rw [Ideal.ofBits_zero_f32]
  have h : v = 0#1 ∨ v = 1#1 := by revert v; decide
  rcases h with rfl | rfl <;> simp

/-- The diagonal's indicator, at a position. -/
theorem onDiag_at (i j : Fin 4096) : onDiag (F := Ideal) (ix2 i j) = if i = j then 1#1 else 0#1 := by
  refine (bit_above _).trans ?_
  refine Eq.trans ?_ (word_eq i j)
  show IntOp.cmpi .eq (BitVec.ofNat 32 (i : ℕ) + 0#32) (BitVec.ofNat 32 (j : ℕ)) = _
  rw [BitVec.add_zero]

/-! ## The lowered matrix -/

/-- The word of positive infinity. -/
theorem word_top : Ideal.ofBits .f32 2139095040#32 = ⊤ := by simp [Ideal.ofBits, Ideal.ieee]

/-- A word with the exponent of one and any bits below it is a real number. -/
theorem word_real (v : BitVec 32) : ∃ r : ℝ, Ideal.ofBits .f32 (v >>> 9 ||| 1065353216#32) = r := by
  have e : (v >>> 9 ||| 1065353216#32).extractLsb' 23 8 = 127#8 := by
    ext i hi
    interval_cases i <;> simp
  simp only [Ideal.ofBits, Ideal.ieee, e]
  exact ⟨_, rfl⟩

/-- The random matrix holds real numbers. -/
theorem drawn_real (b : IVec S4096x4096 32) (q : S4096x4096.Idx) : ∃ v : ℝ, drawn (F := Ideal) b q = v := by
  obtain ⟨r, hr⟩ := word_real (b q)
  refine ⟨max 0 ((r - 1) * (1 - 0) + 0), ?_⟩
  show max (Ideal.ofBits .f32 0x00000000#32) ((Ideal.ofBits .f32 (Host.shrui b (fun _ => 9#32) q ||| 1065353216#32) - Ideal.ofBits .f32 0x3F800000#32)
    * (Ideal.ofBits .f32 0x3F800000#32 - Ideal.ofBits .f32 0x00000000#32) + Ideal.ofBits .f32 0x00000000#32) = _
  have hs : Host.shrui b (fun _ => 9#32) q = b q >>> 9 := rfl
  rw [hs, hr, Ideal.ofBits_zero_f32, Ideal.ofBits_one_f32]
  push_cast
  rfl

/-- The smallest entry of each row. -/
def rowLeasts (r : FVec Ideal S4096x4096 .f32) : FVec Ideal S4096 .f32 :=
  Host.reduce (FloatOps.minimumf (F := Ideal) (φ := .f32)) r (constant S_ .f32 0x7F800000#32) reducesTo_S4096x4096_S4096_d1 h_S_

/-- The smallest entry of a row. -/
def rowLeast (r : FVec Ideal S4096x4096 .f32) (i : Fin 4096) : EReal := rowLeasts r (ix1 i)

/-- A minimum over an axis is at most every entry it is taken over. -/
theorem reduce_min_le {s t u : Shape} {axes : List (Fin s.rank)} (x : s.Idx → EReal) (init : u.Idx → EReal) (h : s.ReducesTo axes t)
    (hu : 0 < u.numel) (q : s.Idx) : Host.reduce min x init h hu (h.drop q) ≤ x q := by
  rw [Host.reduce_eq_fold, Finset.fold_min_le]
  exact Or.inr ⟨q, Finset.mem_filter.mpr ⟨Finset.mem_univ _, rfl⟩, le_rfl⟩

/-- A minimum over an axis is above what every entry and the initial value is above. -/
theorem lt_reduce_min {s t u : Shape} {axes : List (Fin s.rank)} (x : s.Idx → EReal) (init : u.Idx → EReal) (h : s.ReducesTo axes t)
    (hu : 0 < u.numel) (j : t.Idx) (c : EReal) (hi : c < init (Shape.Idx.first hu)) (hx : ∀ q, c < x q) : c < Host.reduce min x init h hu j := by
  rw [Host.reduce_eq_fold, Finset.lt_fold_min]
  exact ⟨hi, fun q _ => hx q⟩

/-- The smallest entry of a row is at most each entry of the row. -/
theorem rowLeast_le (r : FVec Ideal S4096x4096 .f32) (i k : Fin 4096) : rowLeast r i ≤ r (ix2 i k) := by
  have e : (ix1 i : S4096.Idx) = reducesTo_S4096x4096_S4096_d1.drop (ix2 i k) := by
    funext d
    obtain rfl : d = 0 := Subsingleton.elim _ _
    rfl
  unfold rowLeast rowLeasts
  rw [Ideal.minimumf_eq_min, e]
  exact reduce_min_le _ _ _ _ _

/-- The smallest entry of a row of real numbers is above the bottom. -/
theorem bot_lt_rowLeast {r : FVec Ideal S4096x4096 .f32} (hr : ∀ q, ∃ v : ℝ, r q = v) (i : Fin 4096) : ⊥ < rowLeast r i := by
  unfold rowLeast rowLeasts
  rw [Ideal.minimumf_eq_min]
  refine lt_reduce_min _ _ _ _ _ _ ?_ fun q => ?_
  · exact lt_of_lt_of_eq bot_lt_top word_top.symm
  · obtain ⟨v, hv⟩ := hr q
    rw [hv]; exact EReal.bot_lt_coe v

/-- A column laid over the matrix, at a position. -/
theorem spread_at (v : FVec Ideal S4096 .f32) (i j : Fin 4096) :
    broadcastInDim S4096x4096 ![0, 1] bcast_S4096x1_S4096x4096_0_1 (broadcastInDim S4096x1 ![0] bcast_S4096_S4096x1_0 v) (ix2 i j) = v (ix1 i) := by
  pointwise

/-- One taken off a column, at a position. -/
theorem less_one (v : FVec Ideal S4096 .f32) (i : Fin 4096) :
    subf v (broadcastInDim S4096 ![] bcast_S_S4096 (constant S_ .f32 0x3F800000#32)) (ix1 i) = v (ix1 i) - 1 := by
  pointwise

/-- The lowered matrix, by the smallest entries of its rows. -/
theorem lowered_select (r : FVec Ideal S4096x4096 .f32) (i j : Fin 4096) :
    lowered r (ix2 i j) = Scalar.select (onDiag (F := Ideal) (ix2 i j)) (rowLeast r i - 1) (r (ix2 i j)) := by
  have h : lowered r (ix2 i j) = Scalar.select (onDiag (F := Ideal) (ix2 i j)) (broadcastInDim S4096x4096 ![0, 1] bcast_S4096x1_S4096x4096_0_1
      (broadcastInDim S4096x1 ![0] bcast_S4096_S4096x1_0 (subf (rowLeasts r)
        (broadcastInDim S4096 ![] bcast_S_S4096 (constant S_ .f32 0x3F800000#32)))) (ix2 i j)) (r (ix2 i j)) := rfl
  rw [h, spread_at, less_one]
  rfl

/-- The lowered matrix, at a position. -/
theorem lowered_at (r : FVec Ideal S4096x4096 .f32) (i j : Fin 4096) : lowered r (ix2 i j) = if i = j then rowLeast r i - 1 else r (ix2 i j) := by
  rw [lowered_select, onDiag_at]
  by_cases e : i = j
  · rw [if_pos e, if_pos e]; rfl
  · rw [if_neg e, if_neg e]; rfl

/-- In each row the lowered diagonal is below every other entry. -/
theorem lowered_lt {r : FVec Ideal S4096x4096 .f32} (hr : ∀ q, ∃ v : ℝ, r q = v) {i k : Fin 4096} (hk : k ≠ i) :
    lowered r (ix2 i i) < lowered r (ix2 i k) := by
  rw [lowered_at, lowered_at, if_pos rfl, if_neg (Ne.symm hk)]
  have hle : rowLeast r i ≤ r (ix2 i k) := rowLeast_le r i k
  have hbot : ⊥ < rowLeast r i := bot_lt_rowLeast hr i
  obtain ⟨v, hv⟩ := hr (ix2 i k)
  have htop : rowLeast r i < ⊤ := lt_of_le_of_lt hle (by rw [hv]; exact EReal.coe_lt_top v)
  refine lt_of_lt_of_le ?_ hle
  lift rowLeast r i to ℝ using ⟨htop.ne, hbot.ne'⟩ with w
  rw [show (1 : EReal) = ((1 : ℝ) : EReal) from rfl, ← EReal.coe_sub]
  exact_mod_cast sub_one_lt w

/-! ## The sorted rows -/

/-- The order in which a row is sorted: the larger first. -/
abbrev larger (r : FVec Ideal S4096x4096 .f32) (i k k' : Fin 4096) : Bool := FloatOps.cmpfTotal .gt (r (ix2 i k)) (r (ix2 i k')) == 1#1

/-- The column at a position of a sorted row. -/
def sorted (r : FVec Ideal S4096x4096 .f32) (i p : Fin 4096) : Fin 4096 := sortedFrom (larger r i) p

/-- A larger entry goes first. -/
theorem larger_iff (r : FVec Ideal S4096x4096 .f32) (i k k' : Fin 4096) : larger r i k k' = true ↔ r (ix2 i k') < r (ix2 i k) := by
  show (BitVec.ofBool (decide (r (ix2 i k') < r (ix2 i k))) == 1#1) = true ↔ _
  by_cases h : r (ix2 i k') < r (ix2 i k) <;> simp [h]

/-- The last position of a sorted row is the column of its strict minimum. -/
theorem sorted_last {r : FVec Ideal S4096x4096 .f32} {i : Fin 4096} (h : ∀ k, k ≠ i → r (ix2 i i) < r (ix2 i k)) :
    sorted r i ⟨4095, by decide⟩ = i := by
  by_contra hne
  obtain ⟨p, hp⟩ := sortedFrom_surjective (larger r i) i
  have hlt : p < ⟨4095, by decide⟩ := by
    refine lt_of_le_of_ne (Fin.mk_le_mk.mpr (by have := p.2; omega)) fun e => hne ?_
    rw [← e]; exact hp
  have key := sortedFrom_noInversion (larger r i) (larger r i) (fun a b hab => ?_) (fun _ _ h => h) (fun a b c hab hbc => ?_) p ⟨4095, by decide⟩ hlt
  · rw [hp, Bool.eq_false_iff, Ne, larger_iff] at key
    exact key (h _ hne)
  · rw [Bool.eq_false_iff, Ne, larger_iff]
    rw [larger_iff] at hab
    exact not_lt.mpr hab.le
  · rw [Bool.eq_false_iff, Ne, larger_iff, not_lt] at hab hbc ⊢
    exact hab.trans hbc

/-- The position's column as the reference holds it. -/
theorem largest_at (r : FVec Ideal S4096x4096 .f32) (i : Fin 4096) (p : Fin 4095) :
    largest r (ix2 i p) = BitVec.ofNat 32 (sorted r i ⟨p, by omega⟩ : ℕ) := by
  have e : ∀ (a k : Fin 4096), (ix2 i a : S4096x4096.Idx).along 1 k = ix2 i k := fun a k => by
    funext d
    refine Fin.cases ?_ (fun d' => ?_) d
    · rfl
    · obtain rfl : d' = 0 := Subsingleton.elim _ _
      rfl
  unfold largest Host.topK Host.sort2
  pointwise
  unfold sorted larger
  simp only [e]
  rfl

end Cert.ReferenceIdeal.Line
-- ==== Proof.RMask.lean ====
module

public import proofs.«01_k».proof.Proof.RRow
public import Idealize.ShloMosaic.Lib.Routing.OpsOrder

/-! The reference's mask: zero on the diagonal and one off it, whatever the random bits are. -/

@[expose] public section

set_option maxRecDepth 16384

noncomputable section

namespace Cert.ReferenceIdeal.Line

open Idealize.ShloMosaic Idealize.SL.Sem
open Cert.ReferenceIdeal Facts₀ Facts

/-! ## The indices of the write -/

/-- A number below 4096, as a signed word, is itself. -/
theorem word_toInt (i : Fin 4096) : (BitVec.ofNat 32 (i : ℕ)).toInt = (i : ℕ) := by
  rw [BitVec.toInt_eq_toNat_of_lt (by rw [word_toNat]; have := i.2; omega), word_toNat]

/-- A number below 4096, wrapped as an index, stays itself. -/
theorem word_wrapped (i : Fin 4096) :
    Scalar.select (IntOp.cmpi .slt (BitVec.ofNat 32 (i : ℕ)) 0#32) (IntOp.addi (BitVec.ofNat 32 (i : ℕ)) 4096#32) (BitVec.ofNat 32 (i : ℕ))
      = BitVec.ofNat 32 (i : ℕ) := by
  have h : IntOp.cmpi .slt (BitVec.ofNat 32 (i : ℕ)) 0#32 = 0#1 := by
    show BitVec.ofBool (BitVec.slt _ _) = _
    rw [BitVec.slt_eq_decide, word_toInt, decide_eq_false]
    · rfl
    · simp only [BitVec.toInt_zero, not_lt]; exact Int.natCast_nonneg _
  rw [h]; rfl

/-- The row number of a position. -/
theorem rowNumber_at (i : Fin 4096) (p : Fin 4095) : rowNumber (ix2 i p) = BitVec.ofNat 32 (i : ℕ) := by
  refine Eq.trans ?_ (word_wrapped i)
  pointwise [rowNumber]

/-- The column number of a position holding a small number. -/
theorem colNumber_at (k : IVec S4096x4095 32) (i : Fin 4096) (p : Fin 4095) (c : Fin 4096) (h : k (ix2 i p) = BitVec.ofNat 32 (c : ℕ)) :
    colNumber k (ix2 i p) = BitVec.ofNat 32 (c : ℕ) := by
  refine Eq.trans ?_ (word_wrapped c)
  rw [← h]
  pointwise [colNumber]

/-- The pairs of indices written at. -/
def written (r : FVec Ideal S4096x4096 .f32) : IVec S4096x4095x2 32 :=
  concatenate S4096x4095x2 2 [⟨S4096x4095x1, broadcastInDim S4096x4095x1 ![0, 1] bcast_S4096x4095_S4096x4095x1_0_1 rowNumber⟩,
      ⟨S4096x4095x1, broadcastInDim S4096x4095x1 ![0, 1] bcast_S4096x4095_S4096x4095x1_0_1 (colNumber (largest r))⟩]
      concatenates_S4096x4095x1_S4096x4095x1_S4096x4095x2_d2

/-- Two arrays laid side by side: the first. -/
theorem joined_fst (a b : IVec S4096x4095 32) (i : Fin 4096) (p : Fin 4095) :
    concatenate S4096x4095x2 2 [⟨S4096x4095x1, broadcastInDim S4096x4095x1 ![0, 1] bcast_S4096x4095_S4096x4095x1_0_1 a⟩,
      ⟨S4096x4095x1, broadcastInDim S4096x4095x1 ![0, 1] bcast_S4096x4095_S4096x4095x1_0_1 b⟩]
      concatenates_S4096x4095x1_S4096x4095x1_S4096x4095x2_d2 (ix3 i p 0) = a (ix2 i p) := by
  pointwise

/-- Two arrays laid side by side: the second. -/
theorem joined_snd (a b : IVec S4096x4095 32) (i : Fin 4096) (p : Fin 4095) :
    concatenate S4096x4095x2 2 [⟨S4096x4095x1, broadcastInDim S4096x4095x1 ![0, 1] bcast_S4096x4095_S4096x4095x1_0_1 a⟩,
      ⟨S4096x4095x1, broadcastInDim S4096x4095x1 ![0, 1] bcast_S4096x4095_S4096x4095x1_0_1 b⟩]
      concatenates_S4096x4095x1_S4096x4095x1_S4096x4095x2_d2 (ix3 i p 1) = b (ix2 i p) := by
  pointwise

/-- The first index of a pair is the row. -/
theorem written_fst (r : FVec Ideal S4096x4096 .f32) (i : Fin 4096) (p : Fin 4095) : written r (ix3 i p 0) = BitVec.ofNat 32 (i : ℕ) :=
  (joined_fst _ _ i p).trans (rowNumber_at i p)

/-- The second index of a pair is the column at that position of the sorted row. -/
theorem written_snd (r : FVec Ideal S4096x4096 .f32) (i : Fin 4096) (p : Fin 4095) :
    written r (ix3 i p 1) = BitVec.ofNat 32 (sorted r i ⟨p, by omega⟩ : ℕ) :=
  (joined_snd _ _ i p).trans (colNumber_at _ i p _ (largest_at r i p))

/-! ## Where a write lands -/

/-- The write's dimension numbers. -/
abbrev dims : ScatterDims S4096x4096 S4096x4095x2 S4096x4095 := scatter_S4096x4096_S4096x4095x2_S4096x4095_n_01_01_2

/-- The row a pair starts at. -/
theorem start_row (idx : IVec S4096x4095x2 32) (i : Fin 4096) (p : Fin 4095) : dims.start (ix2 i p) idx 0 = (idx (ix3 i p 0)).toInt := by
  have e : dims.siIdx (ix2 i p) ⟨0, by decide⟩ = ix3 i p 0 := by
    funext d
    match d with
    | ⟨0, _⟩ => rfl
    | ⟨1, _⟩ => rfl
    | ⟨2, _⟩ => rfl
  rw [← e]; rfl

/-- The column a pair starts at. -/
theorem start_col (idx : IVec S4096x4095x2 32) (i : Fin 4096) (p : Fin 4095) : dims.start (ix2 i p) idx 1 = (idx (ix3 i p 1)).toInt := by
  have e : dims.siIdx (ix2 i p) ⟨1, by decide⟩ = ix3 i p 1 := by
    funext d
    match d with
    | ⟨0, _⟩ => rfl
    | ⟨1, _⟩ => rfl
    | ⟨2, _⟩ => rfl
  rw [← e]; rfl

/-- The writes have no window. -/
theorem window_zero (j : S4096x4095.Idx) (a : Fin 2) : dims.window j a = 0 := by
  match a with
  | ⟨0, _⟩ => rfl
  | ⟨1, _⟩ => rfl

/-- A pair of small indices is written at. -/
theorem lands (idx : IVec S4096x4095x2 32) (i : Fin 4096) (p : Fin 4095) (a c : Fin 4096)
    (h0 : idx (ix3 i p 0) = BitVec.ofNat 32 (a : ℕ)) (h1 : idx (ix3 i p 1) = BitVec.ofNat 32 (c : ℕ)) :
    dims.resultIdx? (ix2 i p) idx = some (ix2 a c) := by
  have s0 : dims.start (ix2 i p) idx 0 = (a : ℕ) := by rw [start_row, h0, word_toInt]
  have s1 : dims.start (ix2 i p) idx 1 = (c : ℕ) := by rw [start_col, h1, word_toInt]
  have hw := window_zero (ix2 i p)
  have hall : ∀ d : Fin 2, dims.start (ix2 i p) idx d + dims.window (ix2 i p) d = ((ix2 a c : S4096x4096.Idx) d : ℕ) := by
    intro d
    rw [hw d]
    match d with
    | ⟨0, _⟩ => exact (add_zero _).trans s0
    | ⟨1, _⟩ => exact (add_zero _).trans s1
  have hin : ∀ d : Fin 2, 0 ≤ dims.start (ix2 i p) idx d + dims.window (ix2 i p) d
      ∧ dims.start (ix2 i p) idx d + dims.window (ix2 i p) d < S4096x4096.size d := by
    intro d
    rw [hall d]
    exact ⟨Int.natCast_nonneg _, Int.ofNat_lt.mpr ((ix2 a c : S4096x4096.Idx) d).2⟩
  unfold ScatterDims.resultIdx?
  rw [dif_pos hin]
  congr 1
  funext d
  apply Fin.ext
  show (dims.start (ix2 i p) idx d + dims.window (ix2 i p) d).toNat = _
  rw [hall d]; rfl

/-! ## The mask -/

/-- A constant written at some steps of a walk: what stands at the end. -/
theorem foldl_const {α ι : Type} (P : ι → Prop) [DecidablePred P] [∀ L : List ι, Decidable (∃ n ∈ L, P n)] (v z : α) (L : List ι) :
    L.foldl (fun a n => if P n then v else a) z = if ∃ n ∈ L, P n then v else z := by
  induction L generalizing z with
  | nil => simp
  | cons n L ih =>
    rw [List.foldl_cons, ih]
    by_cases hn : P n
    · rw [if_pos hn, if_pos (show ∃ m ∈ n :: L, P m from ⟨n, List.mem_cons_self, hn⟩)]; split <;> rfl
    · rw [if_neg hn]
      refine if_congr ?_ rfl rfl
      simp [hn]

open scoped Classical in
/-- The mask at a position: one where some pair is written at, zero elsewhere. -/
theorem maskOf_at (r : FVec Ideal S4096x4096 .f32) (q : S4096x4096.Idx) :
    maskOf r q = if ∃ j, dims.resultIdx? j (written r) = some q then 1 else 0 := by
  have h : maskOf r q = Host.scatter dims (fun _ b => b) (fun _ => (Ideal.ofBits .f32 0x00000000#32 : EReal)) (written r)
      (fun _ => (Ideal.ofBits .f32 0x3F800000#32 : EReal)) q := rfl
  rw [h, Routing.scatter_at, foldl_const (fun n => dims.resultIdx? (S4096x4095.rowMajor.symm n) (written r) = some q)]
  rw [Ideal.ofBits_one_f32, Ideal.ofBits_zero_f32]
  refine if_congr ⟨fun ⟨n, _, hn⟩ => ⟨_, hn⟩, fun ⟨j, hj⟩ => ⟨S4096x4095.rowMajor j, List.mem_finRange _, ?_⟩⟩ rfl rfl
  rw [Equiv.symm_apply_apply]; exact hj

/-- The reference's mask is zero on the diagonal and one off it. -/
theorem mask_at (b : IVec S4096x4096 32) (i k : Fin 4096) : maskOf (lowered (drawn (F := Ideal) b)) (ix2 i k) = if i = k then 0 else 1 := by
  classical
  have hlast : ∀ a, sorted (lowered (drawn (F := Ideal) b)) a ⟨4095, by decide⟩ = a := fun a =>
    sorted_last fun k hk => lowered_lt (drawn_real b) hk
  generalize lowered (drawn (F := Ideal) b) = r at hlast ⊢
  rw [maskOf_at]
  have hland : ∀ (a : Fin 4096) (p : Fin 4095), dims.resultIdx? (ix2 a p) (written r) = some (ix2 a (sorted r a ⟨p, by omega⟩)) := fun a p =>
    lands _ a p _ _ (written_fst r a p) (written_snd r a p)
  by_cases h : i = k
  · subst h
    rw [if_pos rfl, if_neg]
    rintro ⟨j, hj⟩
    have e : dims.resultIdx? j (written r) = dims.resultIdx? (ix2 (j 0) (j 1)) (written r) := congrArg (fun z => dims.resultIdx? z (written r)) (eq_ix2 j)
    have h2 := (hland (j 0) (j 1)).symm.trans (e.symm.trans hj)
    have h3 := Option.some.inj h2
    have ha : (j 0 : Fin 4096) = i := congrFun h3 0
    have hs : sorted r (j 0) ⟨(j 1 : Fin 4095), _⟩ = i := congrFun h3 1
    rw [ha] at hs
    have := sortedFrom_injective _ (hs.trans (hlast i).symm)
    have := congrArg Fin.val this
    simp only at this
    have := (j 1).2
    change (j 1 : ℕ) < 4095 at this
    omega
  · rw [if_neg h, if_pos]
    obtain ⟨p, hp⟩ := sortedFrom_surjective (larger r i) k
    have hp' : (p : ℕ) < 4095 := by
      refine lt_of_le_of_ne (by have := p.2; omega) fun e => h ?_
      have : p = ⟨4095, by decide⟩ := Fin.ext e
      rw [← hp, this]; exact (hlast i).symm
    exact ⟨ix2 i ⟨p, hp'⟩, (hland i ⟨p, hp'⟩).trans (congrArg (fun c => some (ix2 i c)) hp)⟩

end Cert.ReferenceIdeal.Line
-- ==== Proof.RValue.lean ====
module

public import proofs.«01_k».proof.Proof.RMask
public import proofs.«01_k».proof.Proof.Terms

/-! The reference's result in real numbers: the off-diagonal loss of the scores' weights. -/

@[expose] public section

set_option maxRecDepth 16384

noncomputable section

namespace Cert.ReferenceIdeal.Line

open Idealize.ShloMosaic Idealize.SL.Sem
open Cert.ReferenceIdeal Facts₀ Facts Cert.Terms
open scoped BigOperators

/-- The weights of the scores. -/
def weights (x : FVec Ideal S4096x4096 .f32) (i j : Fin 4096) : ℝ := weight (x (ix2 i j))

/-- The weights of the transposed scores. -/
def weightsT (x : FVec Ideal S4096x4096 .f32) (i j : Fin 4096) : ℝ := weight (x (ix2 j i))

/-- The exponentials are the weights. -/
theorem expScores_at {x : FVec Ideal S4096x4096 .f32} (h : ∀ q, x q < ⊤) (i j : Fin 4096) : expScores x (ix2 i j) = (weights x i j : EReal) := by
  refine Eq.trans (b := Ideal.exp (Ideal.div (x (ix2 i j)) (Ideal.ofBits .f32 1036831949#32))) ?_ ?_
  · pointwise [expScores, splat]
  · rw [word_temp]; exact exp_weight (h _)

/-- The transposed exponentials are the transposed weights. -/
theorem transposed_at {x : FVec Ideal S4096x4096 .f32} (h : ∀ q, x q < ⊤) (i j : Fin 4096) :
    transpose S4096x4096 [1, 0] (expScores x) transposes_S4096x4096_S4096x4096_1_0 (ix2 i j) = (weightsT x i j : EReal) := by
  refine Eq.trans (b := expScores x (ix2 j i)) ?_ (expScores_at h j i)
  generalize expScores x = e
  pointwise

/-- A matrix of real numbers over its row totals. -/
theorem normal_at {e : FVec Ideal S4096x4096 .f32} {w : Fin 4096 → Fin 4096 → ℝ} (h : ∀ i j, e (ix2 i j) = (w i j : EReal)) (i j : Fin 4096) :
    normal e (ix2 i j) = Ideal.div (w i j : EReal) (rowTotal w i : EReal) := by
  refine Eq.trans (b := Ideal.div (e (ix2 i j)) (∑ k, e (ix2 i k) + Ideal.ofBits .f32 786163455#32)) ?_ ?_
  · pointwise [normal, splat]
  · rw [word_eps, h, Finset.sum_congr rfl fun k _ => h i k, coe_sum, ← EReal.coe_add]; rfl

/-- The criterion, as a sum over the matrix. -/
theorem criterion_at (n k : FVec Ideal S4096x4096 .f32) (q : S_.Idx) :
    criterion n k q = -Ideal.div (∑ i, ∑ j, Ideal.log (1 - n (ix2 i j) + Ideal.ofBits .f32 786163455#32) * k (ix2 i j)) (Ideal.ofBits .f32 1166016512#32) := by
  pointwise [criterion, splat]

/-- The criterion of a matrix of real numbers under the off-diagonal mask. -/
theorem criterion_real {e k : FVec Ideal S4096x4096 .f32} {w : Fin 4096 → Fin 4096 → ℝ} (h : ∀ i j, e (ix2 i j) = (w i j : EReal))
    (hw : ∀ i j, 0 ≤ w i j) (hk : ∀ i j, k (ix2 i j) = if i = j then (0 : EReal) else 1) (q : S_.Idx) :
    criterion (normal e) k q = ((-((full w - diagonal w) / 4096) : ℝ) : EReal) := by
  have hterm : ∀ i j : Fin 4096, Ideal.log (1 - normal e (ix2 i j) + Ideal.ofBits .f32 786163455#32) * k (ix2 i j)
      = ((term (w i j) (rowTotal w i) * (if i = j then (0 : ℝ) else 1) : ℝ) : EReal) := fun i j => by
    rw [word_eps, normal_at h, term_plain (le_rowTotal hw i j) (rowTotal_pos hw i), hk, EReal.coe_mul]
    split <;> simp
  rw [criterion_at, word_count, Finset.sum_congr rfl fun i _ => Finset.sum_congr rfl fun j _ => hterm i j,
    Finset.sum_congr rfl fun i _ => coe_sum _ _, coe_sum, masked, div_real _ (by norm_num), ← EReal.coe_neg]

/-- The reference's result is the loss of the weights, whatever the random bits are. -/
theorem outcome_real {x : FVec Ideal S4096x4096 .f32} (h : ∀ q, x q < ⊤) (b : IVec S4096x4096 32) (q : S_.Idx) :
    outcome x b q = (loss (weights x) (weightsT x) : EReal) := by
  have h1 := criterion_real (expScores_at h) (fun i j => weight_nonneg (h _)) (mask_at b) q
  have h2 := criterion_real (transposed_at h) (fun i j => weight_nonneg (h _)) (mask_at b) q
  have e : outcome x b q = criterion (normal (expScores x)) (maskOf (lowered (drawn b))) q
      + criterion (normal (transpose S4096x4096 [1, 0] (expScores x) transposes_S4096x4096_S4096x4096_1_0)) (maskOf (lowered (drawn b))) q := rfl
  rw [e, h1, h2, ← EReal.coe_add]
  unfold loss
  congr 1
  ring

end Cert.ReferenceIdeal.Line

end
-- ==== Proof.Equation.lean ====
module

public import proofs.«01_k».proof.Pre_below_inf
public import proofs.«01_k».proof.Proof.KValue
public import proofs.«01_k».proof.Proof.RValue
public import Idealize.ShloMosaic.Lib.ReduceAll

/-! The equation: on scores below plus infinity the kernel's result is the reference's. -/

@[expose] public section

set_option maxRecDepth 16384

noncomputable section

namespace Cert.Equation

open Idealize.ShloMosaic Idealize.ShloMosaic.TcCoe Idealize.SL.Sem

/-- The side conditions of the precondition. -/
theorem pre_facts : Cert.Pre_below_inf.Facts where
  bcast_S_S4096x4096 := by decide
  reducesTo_S4096x4096_S_d0_1 := by decide
  h_S_ := by decide

instance : Subsingleton Cert.Pre_below_inf.S_.Idx := ⟨fun a b => funext fun d => d.elim0⟩

/-- Under the precondition every score is below plus infinity. -/
theorem below_top [hPre : Cert.Pre_below_inf.Facts] {x : FVec Ideal Cert.Pre_below_inf.S4096x4096 .f32}
    (h : Cert.Pre_below_inf.fn (F := Ideal) x = fun _ => 1#1) (q : Cert.Pre_below_inf.S4096x4096.Idx) : x q < ⊤ := by
  have e := Host.reduce_andi_all _ _ _ _ _ (congrFun h (fun d : Fin 0 => d.elim0)) q
  have e2 : Ideal.cmp .olt (x q) (Ideal.ofBits .f32 2139095040#32) = 1 := e
  rw [Ideal.cmp_olt_eq_one, Cert.ReferenceIdeal.Line.word_top] at e2
  exact e2

/-- The kernel's result is the reference's, whatever the random bits are. -/
theorem same_result (m : (ℓ : Loc Cert.KernelIdeal.nD Cert.KernelIdeal.τ Cert.KernelIdeal.sig) → Buf (Elt Ideal) ℓ) (c : Dev Cert.KernelIdeal.nD)
    (hx : ∀ q, Cert.KernelIdeal.Body.scores m c q < ⊤) (b : IVec Cert.ReferenceIdeal.S4096x4096 32) :
    Cert.ReferenceIdeal.Line.outcome (F := Ideal) (Cert.KernelIdeal.Body.scores m c) b = fun _ => Cert.KernelIdeal.Body.total m c :=
  funext fun q => (Cert.ReferenceIdeal.Line.outcome_real hx b q).trans (Cert.KernelIdeal.Body.total_real hx).symm

end Cert.Equation

end
-- ==== Proof.lean ====
/- The claims: the kernel and its named form run and leave their argument unchanged, so does the reference; the named form's
   constant is the stated one; and on scores below plus infinity the kernel's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BFrame
public import proofs.«01_k».proof.Proof.KOut
public import proofs.«01_k».proof.Proof.RRun
public import proofs.«01_k».proof.Proof.Equation

@[expose] public section

noncomputable section

namespace Cert.Proof

open Idealize.ShloMosaic Idealize.SL.Sem

/-- The named constant has the stated value. -/
theorem preserves : Cert.preserves_Kernel_KernelIdeal := IdealRules.named_const.statement _ _ _ _ _ rfl

/-- Both programs end with the kernel's total, on scores below plus infinity. -/
theorem algebraic : Cert.algebraic_KernelIdeal_ReferenceIdeal_pre_below_inf (hKernelIdeal := Cert.KernelIdeal.Gen.facts)
    (hReferenceIdeal := Cert.ReferenceIdeal.Gen.facts) (hPre_below_inf := Cert.Equation.pre_facts) := by
  intro m g m' g' hpre harg
  refine ⟨fun c => fun _ => Cert.KernelIdeal.Body.total m c, Cert.KernelIdeal.Body.run m g, ?_⟩
  refine (θ_run Cert.ReferenceIdeal.defs _ _).mono (fun r h c => ⟨?_, (h c).2⟩) (Cert.ReferenceIdeal.Line.run m' g')
  obtain ⟨b, hb⟩ := (h c).1
  rw [hb, harg c]
  exact Cert.Equation.same_result m c (Cert.Equation.below_top (hPre := Cert.Equation.pre_facts) (hpre c)) b

/-- All the claims. -/
theorem claim : Cert.Claim := ⟨Cert.Kernel.Gen.facts, Cert.KernelIdeal.Gen.facts, Cert.ReferenceIdeal.Gen.facts, Cert.Equation.pre_facts,
  fun m g _ => Cert.Kernel.Body.quiescent m g,
  fun m g _ => Cert.KernelIdeal.Body.quiescent m g,
  fun m g _ => Cert.KernelIdeal.Body.quiescent m g,
  fun m g _ => Cert.ReferenceIdeal.Line.quiescent m g,
  fun m g _ => Cert.ReferenceIdeal.Line.quiescent m g,
  preserves,
  algebraic⟩

end Cert.Proof

end
